-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norm_w_is_bf16 [hPre_norm_w_is_bf16 : Cert.Pre_norm_w_is_bf16.Facts] (m : (ℓ : Loc Cert.KernelIdeal.nD Cert.KernelIdeal.τ Cert.KernelIdeal.sig) → Buf (Elt Ideal) ℓ) : Prop :=
  ∀ c : Dev Cert.KernelIdeal.nD,
    (Cert.Pre_norm_w_is_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norm_w_is_bf16 [hPre_norm_w_is_bf16 : Cert.Pre_norm_w_is_bf16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norm_w_is_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_norm_w_is_bf16 [hKernelIdeal : Cert.KernelIdeal.Facts] [hPre_norm_w_is_bf16 : Cert.Pre_norm_w_is_bf16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norm_w_is_bf16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_norm_w_is_bf16 [hReferenceIdeal : Cert.ReferenceIdeal.Facts] [hPre_norm_w_is_bf16 : Cert.Pre_norm_w_is_bf16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norm_w_is_bf16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_norm_w_is_bf16 [hKernelIdeal : Cert.KernelIdeal.Facts] [hReferenceIdeal : Cert.ReferenceIdeal.Facts] [hPre_norm_w_is_bf16 : Cert.Pre_norm_w_is_bf16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norm_w_is_bf16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v43_0) = v3 c
          ∧ r.2.mem ((c.tc : Thread Cert.ReferenceIdeal.nD Cert.ReferenceIdeal.τ).loc Cert.ReferenceIdeal.main_v31) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_norm_w_is_bf16 : Cert.Pre_norm_w_is_bf16.Facts),
    quiescent_Kernel (hKernel := hKernel)
    ∧ quiescent_KernelIdeal (hKernelIdeal := hKernelIdeal)
    ∧ quiescent_KernelIdeal_pre_norm_w_is_bf16 (hKernelIdeal := hKernelIdeal) (hPre_norm_w_is_bf16 := hPre_norm_w_is_bf16)
    ∧ quiescent_ReferenceIdeal (hReferenceIdeal := hReferenceIdeal)
    ∧ quiescent_ReferenceIdeal_pre_norm_w_is_bf16 (hReferenceIdeal := hReferenceIdeal) (hPre_norm_w_is_bf16 := hPre_norm_w_is_bf16)
    ∧ preserves_Kernel_KernelIdeal
    ∧ algebraic_KernelIdeal_ReferenceIdeal_pre_norm_w_is_bf16 (hKernelIdeal := hKernelIdeal) (hReferenceIdeal := hReferenceIdeal) (hPre_norm_w_is_bf16 := hPre_norm_w_is_bf16)
-- ==== Pre_norm_w_is_bf16.lean ====
abbrev S4x6144x8192 : Shape := ⟨3, ![4, 6144, 8192]⟩
abbrev S8192 : Shape := ⟨1, ![8192]⟩
abbrev S8192x2304 : Shape := ⟨2, ![8192, 2304]⟩
abbrev S64x18 : Shape := ⟨2, ![64, 18]⟩
abbrev S4 : Shape := ⟨1, ![4]⟩
abbrev S_ : Shape := ⟨0, ![]⟩

class Facts : Prop where
  bitsLt_bf16_f32 : FTy.bits .bf16 < FTy.bits .f32
  bcast_S_S8192 : S_.BroadcastsInDim S8192 (![] : Fin 0 → Fin S8192.rank)

variable [Facts]

def fn {F : FTy → Type} [FloatOps F] (main_arg0 : FVec F S4x6144x8192 .bf16) (main_arg1 : FVec F S8192 .bf16) (main_arg2 : FVec F S8192x2304 .fp8e4m3) (main_arg3 : FVec F S64x18 .f32) (main_arg4 : IVec S4 32) : IVec S8192 1 :=
  let main_v0 : FVec F S8192 .f32 := (extf .f32 · bitsLt_bf16_f32) main_arg1
  let main_v1 : FVec F S8192 .f32 := Host.absf main_v0
  let main_cst : FVec F S_ .f32 := constant S_ .f32 0x7F7F0000#32
  let main_v2 : FVec F S8192 .f32 := broadcastInDim S8192 ![] bcast_S_S8192 main_cst
  let main_v3 : IVec S8192 1 := cmpf .ole main_v1 main_v2
  main_v3
-- ==== Kernel.lean ====
abbrev S4x6144x8192 : Shape := ⟨3, ![4, 6144, 8192]⟩
abbrev S8192 : Shape := ⟨1, ![8192]⟩
abbrev S8192x2304 : Shape := ⟨2, ![8192, 2304]⟩
abbrev S64x18 : Shape := ⟨2, ![64, 18]⟩
abbrev S4 : Shape := ⟨1, ![4]⟩
abbrev S64x128 : Shape := ⟨2, ![64, 128]⟩
abbrev S18x64 : Shape := ⟨2, ![18, 64]⟩
abbrev S24576x8192 : Shape := ⟨2, ![24576, 8192]⟩
abbrev S1x8192 : Shape := ⟨2, ![1, 8192]⟩
abbrev S4x2048x6144 : Shape := ⟨3, ![4, 2048, 6144]⟩
abbrev S4x128x6144 : Shape := ⟨3, ![4, 128, 6144]⟩
abbrev S4x64x6144 : Shape := ⟨3, ![4, 64, 6144]⟩
abbrev S256x8192 : Shape := ⟨2, ![256, 8192]⟩
abbrev S1x2048x256 : Shape := ⟨3, ![1, 2048, 256]⟩
abbrev S1x128x256 : Shape := ⟨3, ![1, 128, 256]⟩
abbrev S1x64x256 : Shape := ⟨3, ![1, 64, 256]⟩
abbrev S2304x8192 : Shape := ⟨2, ![2304, 8192]⟩
abbrev S128x2304 : Shape := ⟨2, ![128, 2304]⟩
abbrev S256x128 : Shape := ⟨2, ![256, 128]⟩
abbrev S_ : Shape := ⟨0, ![]⟩
abbrev S1x1 : Shape := ⟨2, ![1, 1]⟩
abbrev S128x128 : Shape := ⟨2, ![128, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S128x256 : Shape := ⟨2, ![128, 256]⟩
abbrev S64x256 : Shape := ⟨2, ![64, 256]⟩
abbrev S1 : Shape := ⟨1, ![1]⟩
abbrev S64x1 : Shape := ⟨2, ![64, 1]⟩
abbrev S768x8192 : Shape := ⟨2, ![768, 8192]⟩
abbrev S768x256 : Shape := ⟨2, ![768, 256]⟩
abbrev S4x32x64x6144 : Shape := ⟨4, ![4, 32, 64, 6144]⟩
abbrev S4x6144x32x64 : Shape := ⟨4, ![4, 6144, 32, 64]⟩
abbrev S4x2x64x6144 : Shape := ⟨4, ![4, 2, 64, 6144]⟩
abbrev S4x6144x2x64 : Shape := ⟨4, ![4, 6144, 2, 64]⟩
abbrev S4x6144x64 : Shape := ⟨3, ![4, 6144, 64]⟩

abbrev nBuf : Space → Nat
  | .hbm => 23
  | .vmem => 18
  | .smem => 2
  | _ => 0

abbrev bufTy : (tb : Table) → Fin (tcTables nBuf tb) → BufTy
  | .hbm, ⟨0, _⟩ => ⟨S4x6144x8192, .bf16⟩
  | .hbm, ⟨1, _⟩ => ⟨S8192, .bf16⟩
  | .hbm, ⟨2, _⟩ => ⟨S8192x2304, .fp8e4m3⟩
  | .hbm, ⟨3, _⟩ => ⟨S64x18, .f32⟩
  | .hbm, ⟨4, _⟩ => ⟨S4, .i32⟩
  | .hbm, ⟨5, _⟩ => ⟨S64x128, .f32⟩
  | .hbm, ⟨6, _⟩ => ⟨S18x64, .f32⟩
  | .hbm, ⟨7, _⟩ => ⟨S24576x8192, .bf16⟩
  | .hbm, ⟨8, _⟩ => ⟨S8192, .f32⟩
  | .hbm, ⟨9, _⟩ => ⟨S1x8192, .f32⟩
  | .hbm, ⟨10, _⟩ => ⟨S4x2048x6144, .bf16⟩
  | .hbm, ⟨11, _⟩ => ⟨S4x128x6144, .bf16⟩
  | .hbm, ⟨12, _⟩ => ⟨S4x128x6144, .bf16⟩
  | .hbm, ⟨13, _⟩ => ⟨S24576x8192, .fp8e4m3⟩
  | .hbm, ⟨14, _⟩ => ⟨S4x64x6144, .f32⟩
  | .hbm, ⟨15, _⟩ => ⟨S4x32x64x6144, .bf16⟩
  | .hbm, ⟨16, _⟩ => ⟨S4x6144x32x64, .bf16⟩
  | .hbm, ⟨17, _⟩ => ⟨S4x2x64x6144, .bf16⟩
  | .hbm, ⟨18, _⟩ => ⟨S4x6144x2x64, .bf16⟩
  | .hbm, ⟨19, _⟩ => ⟨S4x2x64x6144, .bf16⟩
  | .hbm, ⟨20, _⟩ => ⟨S4x6144x2x64, .bf16⟩
  | .hbm, ⟨21, _⟩ => ⟨S4x6144x8192, .fp8e4m3⟩
  | .hbm, ⟨22, _⟩ => ⟨S4x6144x64, .f32⟩
  | .local _ .vmem, ⟨0, _⟩ => ⟨S256x8192, .bf16⟩
  | .local _ .vmem, ⟨1, _⟩ => ⟨S256x8192, .bf16⟩
  | .local _ .vmem, ⟨2, _⟩ => ⟨S1x8192, .f32⟩
  | .local _ .vmem, ⟨3, _⟩ => ⟨S64x128, .f32⟩
  | .local _ .vmem, ⟨4, _⟩ => ⟨S1x2048x256, .bf16⟩
  | .local _ .vmem, ⟨5, _⟩ => ⟨S1x2048x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S256x8192, .fp8e4m3⟩
  | .local _ .vmem, ⟨11, _⟩ => ⟨S256x8192, .fp8e4m3⟩
  | .local _ .vmem, ⟨12, _⟩ => ⟨S1x64x256, .f32⟩
  | .local _ .vmem, ⟨13, _⟩ => ⟨S1x64x256, .f32⟩
  | .local _ .vmem, ⟨14, _⟩ => ⟨S2304x8192, .bf16⟩
  | .local _ .vmem, ⟨15, _⟩ => ⟨S256x8192, .bf16⟩
  | .local _ .vmem, ⟨16, _⟩ => ⟨S128x2304, .fp8e4m3⟩
  | .local _ .vmem, ⟨17, _⟩ => ⟨S256x128, .f32⟩
  | .local _ .smem, ⟨0, _⟩ => ⟨S4, .i32⟩
  | .local _ .smem, ⟨1, _⟩ => ⟨S18x64, .f32⟩
  | _, _ => ⟨S4x6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_186 : BitVec 32 := 0#32
  let c64_i32 : BitVec 32 := 64#32
  let v465 : BitVec 32 := Scalar.addi c0_i32_186 c64_i32
  let c1_i32_187 : BitVec 32 := 1#32
  ⟨c0_i32_186, v465, c1_i32_187⟩
def k0_off1 (k0_t1 : Fin k0_t1_loop.trips) : Fin 2 → Nat :=
  let c0_i32_186 : BitVec 32 := 0#32
  let c1_i32_187 : BitVec 32 := 1#32
  let arg17 : BitVec 32 := Scf.iv c0_i32_186 c1_i32_187 k0_t1
  let c128_i32 : BitVec 32 := 128#32
  let v466 : BitVec 32 := Scalar.muli arg17 c128_i32
  let c0_i32_189 : BitVec 32 := 0#32
  ![v466.toNat, 0]
def k0_off2 (k0_t1 : Fin k0_t1_loop.trips) : Fin 2 → Nat :=
  let c0_192 : Index := 0#32
  let c0_i32_186 : BitVec 32 := 0#32
  let c1_i32_187 : BitVec 32 := 1#32
  let arg17 : BitVec 32 := Scf.iv c0_i32_186 c1_i32_187 k0_t1
  let v470 : Index := Scalar.indexCast arg17
  ![0, v470.toNat]
def k0_mult1 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_195 : BitVec 32 := 128#32
  let v478 : BitVec 32 := Scalar.muli arg17 c128_i32_195
  v478
def k0_off3 (k0_t1 : Fin k0_t1_loop.trips) : Fin 2 → Nat :=
  let c0_196 : Index := 0#32
  let c0_i32_186 : BitVec 32 := 0#32
  let c1_i32_187 : BitVec 32 := 1#32
  let arg17 : BitVec 32 := Scf.iv c0_i32_186 c1_i32_187 k0_t1
  let c128_i32_195 : BitVec 32 := 128#32
  let v478 : BitVec 32 := Scalar.muli arg17 c128_i32_195
  let v479 : BitVec 32 := v478
  let v480 : Index := Scalar.indexCast v479
  ![0, v480.toNat]
def k0_off4 (k0_t1 : Fin k0_t1_loop.trips) : Fin 2 → Nat :=
  let c1 : Index := 1#32
  let c0_i32_186 : BitVec 32 := 0#32
  let c1_i32_187 : BitVec 32 := 1#32
  let arg17 : BitVec 32 := Scf.iv c0_i32_186 c1_i32_187 k0_t1
  let v484 : Index := Scalar.indexCast arg17
  ![1, v484.toNat]
def k0_mult2 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_199 : BitVec 32 := 128#32
  let v492 : BitVec 32 := Scalar.muli arg17 c128_i32_199
  v492
def k0_off5 (k0_t1 : Fin k0_t1_loop.trips) : Fin 2 → Nat :=
  let c128_200 : Index := 128#32
  let c0_i32_186 : BitVec 32 := 0#32
  let c1_i32_187 : BitVec 32 := 1#32
  let arg17 : BitVec 32 := Scf.iv c0_i32_186 c1_i32_187 k0_t1
  let c128_i32_199 : BitVec 32 := 128#32
  let v492 : BitVec 32 := Scalar.muli arg17 c128_i32_199
  let v493 : BitVec 32 := v492
  let v494 : Index := Scalar.indexCast v493
  ![128, v494.toNat]
def k0_off6 (k0_t1 : Fin k0_t1_loop.trips) : Fin 2 → Nat :=
  let c2 : Index := 2#32
  let c0_i32_186 : BitVec 32 := 0#32
  let c1_i32_187 : BitVec 32 := 1#32
  let arg17 : BitVec 32 := Scf.iv c0_i32_186 c1_i32_187 k0_t1
  let v498 : Index := Scalar.indexCast arg17
  ![2, v498.toNat]
def k0_mult3 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_203 : BitVec 32 := 128#32
  let v506 : BitVec 32 := Scalar.muli arg17 c128_i32_203
  v506
def k0_off7 (k0_t1 : Fin k0_t1_loop.trips) : Fin 2 → Nat :=
  let c256_204 : Index := 256#32
  let c0_i32_186 : BitVec 32 := 0#32
  let c1_i32_187 : BitVec 32 := 1#32
  let arg17 : BitVec 32 := Scf.iv c0_i32_186 c1_i32_187 k0_t1
  let c128_i32_203 : BitVec 32 := 128#32
  let v506 : BitVec 32 := Scalar.muli arg17 c128_i32_203
  let v507 : BitVec 32 := v506
  let v508 : Index := Scalar.indexCast v507
  ![256, v508.toNat]
def k0_off8 (k0_t1 : Fin k0_t1_loop.trips) : Fin 2 → Nat :=
  let c3 : Index := 3#32
  let c0_i32_186 : BitVec 32 := 0#32
  let c1_i32_187 : BitVec 32 := 1#32
  let arg17 : BitVec 32 := Scf.iv c0_i32_186 c1_i32_187 k0_t1
  let v512 : Index := Scalar.indexCast arg17
  ![3, v512.toNat]
def k0_mult4 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_207 : BitVec 32 := 128#32
  let v520 : BitVec 32 := Scalar.muli arg17 c128_i32_207
  v520
def k0_off9 (k0_t1 : Fin k0_t1_loop.trips) : Fin 2 → Nat :=
  let c384_208 : Index := 384#32
  let c0_i32_186 : BitVec 32 := 0#32
  let c1_i32_187 : BitVec 32 := 1#32
  let arg17 : BitVec 32 := Scf.iv c0_i32_186 c1_i32_187 k0_t1
  let c128_i32_207 : BitVec 32 := 128#32
  let v520 : BitVec 32 := Scalar.muli arg17 c128_i32_207
  let v521 : BitVec 32 := v520
  let v522 : Index := Scalar.indexCast v521
  ![384, v522.toNat]
def k0_off10 (k0_t1 : Fin k0_t1_loop.trips) : Fin 2 → Nat :=
  let c4 : Index := 4#32
  let c0_i32_186 : BitVec 32 := 0#32
  let c1_i32_187 : BitVec 32 := 1#32
  let arg17 : BitVec 32 := Scf.iv c0_i32_186 c1_i32_187 k0_t1
  let v526 : Index := Scalar.indexCast arg17
  ![4, v526.toNat]
def k0_mult5 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_211 : BitVec 32 := 128#32
  let v534 : BitVec 32 := Scalar.muli arg17 c128_i32_211
  v534
def k0_off11 (k0_t1 : Fin k0_t1_loop.trips) : Fin 2 → Nat :=
  let c512_212 : Index := 512#32
  let c0_i32_186 : BitVec 32 := 0#32
  let c1_i32_187 : BitVec 32 := 1#32
  let arg17 : BitVec 32 := Scf.iv c0_i32_186 c1_i32_187 k0_t1
  let c128_i32_211 : BitVec 32 := 128#32
  let v534 : BitVec 32 := Scalar.muli arg17 c128_i32_211
  let v535 : BitVec 32 := v534
  let v536 : Index := Scalar.indexCast v535
  ![512, v536.toNat]
def k0_off12 (k0_t1 : Fin k0_t1_loop.trips) : Fin 2 → Nat :=
  let c5 : Index := 5#32
  let c0_i32_186 : BitVec 32 := 0#32
  let c1_i32_187 : BitVec 32 := 1#32
  let arg17 : BitVec 32 := Scf.iv c0_i32_186 c1_i32_187 k0_t1
  let v540 : Index := Scalar.indexCast arg17
  ![5, v540.toNat]
def k0_mult6 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_215 : BitVec 32 := 128#32
  let v548 : BitVec 32 := Scalar.muli arg17 c128_i32_215
  v548
def k0_off13 (k0_t1 : Fin k0_t1_loop.trips) : Fin 2 → Nat :=
  let c640_216 : Index := 640#32
  let c0_i32_186 : BitVec 32 := 0#32
  let c1_i32_187 : BitVec 32 := 1#32
  let arg17 : BitVec 32 := Scf.iv c0_i32_186 c1_i32_187 k0_t1
  let c128_i32_215 : BitVec 32 := 128#32
  let v548 : BitVec 32 := Scalar.muli arg17 c128_i32_215
  let v549 : BitVec 32 := v548
  let v550 : Index := Scalar.indexCast v549
  ![640, v550.toNat]
def k0_off14 (k0_t1 : Fin k0_t1_loop.trips) : Fin 2 → Nat :=
  let c6 : Index := 6#32
  let c0_i32_186 : BitVec 32 := 0#32
  let c1_i32_187 : BitVec 32 := 1#32
  let arg17 : BitVec 32 := Scf.iv c0_i32_186 c1_i32_187 k0_t1
  let v554 : Index := Scalar.indexCast arg17
  ![6, v554.toNat]
def k0_mult7 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_219 : BitVec 32 := 128#32
  let v562 : BitVec 32 := Scalar.muli arg17 c128_i32_219
  v562
def k0_off15 (k0_t1 : Fin k0_t1_loop.trips) : Fin 2 → Nat :=
  let c768_220 : Index := 768#32
  let c0_i32_186 : BitVec 32 := 0#32
  let c1_i32_187 : BitVec 32 := 1#32
  let arg17 : BitVec 32 := Scf.iv c0_i32_186 c1_i32_187 k0_t1
  let c128_i32_219 : BitVec 32 := 128#32
  let v562 : BitVec 32 := Scalar.muli arg17 c128_i32_219
  let v563 : BitVec 32 := v562
  let v564 : Index := Scalar.indexCast v563
  ![768, v564.toNat]
def k0_off16 (k0_t1 : Fin k0_t1_loop.trips) : Fin 2 → Nat :=
  let c7 : Index := 7#32
  let c0_i32_186 : BitVec 32 := 0#32
  let c1_i32_187 : BitVec 32 := 1#32
  let arg17 : BitVec 32 := Scf.iv c0_i32_186 c1_i32_187 k0_t1
  let v568 : Index := Scalar.indexCast arg17
  ![7, v568.toNat]
def k0_mult8 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_223 : BitVec 32 := 128#32
  let v576 : BitVec 32 := Scalar.muli arg17 c128_i32_223
  v576
def k0_off17 (k0_t1 : Fin k0_t1_loop.trips) : Fin 2 → Nat :=
  let c896_224 : Index := 896#32
  let c0_i32_186 : BitVec 32 := 0#32
  let c1_i32_187 : BitVec 32 := 1#32
  let arg17 : BitVec 32 := Scf.iv c0_i32_186 c1_i32_187 k0_t1
  let c128_i32_223 : BitVec 32 := 128#32
  let v576 : BitVec 32 := Scalar.muli arg17 c128_i32_223
  let v577 : BitVec 32 := v576
  let v578 : Index := Scalar.indexCast v577
  ![896, v578.toNat]
def k0_off18 (k0_t1 : Fin k0_t1_loop.trips) : Fin 2 → Nat :=
  let c8 : Index := 8#32
  let c0_i32_186 : BitVec 32 := 0#32
  let c1_i32_187 : BitVec 32 := 1#32
  let arg17 : BitVec 32 := Scf.iv c0_i32_186 c1_i32_187 k0_t1
  let v582 : Index := Scalar.indexCast arg17
  ![8, v582.toNat]
def k0_mult9 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_227 : BitVec 32 := 128#32
  let v590 : BitVec 32 := Scalar.muli arg17 c128_i32_227
  v590
def k0_off19 (k0_t1 : Fin k0_t1_loop.trips) : Fin 2 → Nat :=
  let c1024_228 : Index := 1024#32
  let c0_i32_186 : BitVec 32 := 0#32
  let c1_i32_187 : BitVec 32 := 1#32
  let arg17 : BitVec 32 := Scf.iv c0_i32_186 c1_i32_187 k0_t1
  let c128_i32_227 : BitVec 32 := 128#32
  let v590 : BitVec 32 := Scalar.muli arg17 c128_i32_227
  let v591 : BitVec 32 := v590
  let v592 : Index := Scalar.indexCast v591
  ![1024, v592.toNat]
def k0_off20 (k0_t1 : Fin k0_t1_loop.trips) : Fin 2 → Nat :=
  let c9 : Index := 9#32
  let c0_i32_186 : BitVec 32 := 0#32
  let c1_i32_187 : BitVec 32 := 1#32
  let arg17 : BitVec 32 := Scf.iv c0_i32_186 c1_i32_187 k0_t1
  let v596 : Index := Scalar.indexCast arg17
  ![9, v596.toNat]
def k0_mult10 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_231 : BitVec 32 := 128#32
  let v604 : BitVec 32 := Scalar.muli arg17 c128_i32_231
  v604
def k0_off21 (k0_t1 : Fin k0_t1_loop.trips) : Fin 2 → Nat :=
  let c1152_232 : Index := 1152#32
  let c0_i32_186 : BitVec 32 := 0#32
  let c1_i32_187 : BitVec 32 := 1#32
  let arg17 : BitVec 32 := Scf.iv c0_i32_186 c1_i32_187 k0_t1
  let c128_i32_231 : BitVec 32 := 128#32
  let v604 : BitVec 32 := Scalar.muli arg17 c128_i32_231
  let v605 : BitVec 32 := v604
  let v606 : Index := Scalar.indexCast v605
  ![1152, v606.toNat]
def k0_off22 (k0_t1 : Fin k0_t1_loop.trips) : Fin 2 → Nat :=
  let c10 : Index := 10#32
  let c0_i32_186 : BitVec 32 := 0#32
  let c1_i32_187 : BitVec 32 := 1#32
  let arg17 : BitVec 32 := Scf.iv c0_i32_186 c1_i32_187 k0_t1
  let v610 : Index := Scalar.indexCast arg17
  ![10, v610.toNat]
def k0_mult11 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_235 : BitVec 32 := 128#32
  let v618 : BitVec 32 := Scalar.muli arg17 c128_i32_235
  v618
def k0_off23 (k0_t1 : Fin k0_t1_loop.trips) : Fin 2 → Nat :=
  let c1280_236 : Index := 1280#32
  let c0_i32_186 : BitVec 32 := 0#32
  let c1_i32_187 : BitVec 32 := 1#32
  let arg17 : BitVec 32 := Scf.iv c0_i32_186 c1_i32_187 k0_t1
  let c128_i32_235 : BitVec 32 := 128#32
  let v618 : BitVec 32 := Scalar.muli arg17 c128_i32_235
  let v619 : BitVec 32 := v618
  let v620 : Index := Scalar.indexCast v619
  ![1280, v620.toNat]
def k0_off24 (k0_t1 : Fin k0_t1_loop.trips) : Fin 2 → Nat :=
  let c11 : Index := 11#32
  let c0_i32_186 : BitVec 32 := 0#32
  let c1_i32_187 : BitVec 32 := 1#32
  let arg17 : BitVec 32 := Scf.iv c0_i32_186 c1_i32_187 k0_t1
  let v624 : Index := Scalar.indexCast arg17
  ![11, v624.toNat]
def k0_mult12 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_239 : BitVec 32 := 128#32
  let v632 : BitVec 32 := Scalar.muli arg17 c128_i32_239
  v632
def k0_off25 (k0_t1 : Fin k0_t1_loop.trips) : Fin 2 → Nat :=
  let c1408_240 : Index := 1408#32
  let c0_i32_186 : BitVec 32 := 0#32
  let c1_i32_187 : BitVec 32 := 1#32
  let arg17 : BitVec 32 := Scf.iv c0_i32_186 c1_i32_187 k0_t1
  let c128_i32_239 : BitVec 32 := 128#32
  let v632 : BitVec 32 := Scalar.muli arg17 c128_i32_239
  let v633 : BitVec 32 := v632
  let v634 : Index := Scalar.indexCast v633
  ![1408, v634.toNat]
def k0_off26 (k0_t1 : Fin k0_t1_loop.trips) : Fin 2 → Nat :=
  let c12 : Index := 12#32
  let c0_i32_186 : BitVec 32 := 0#32
  let c1_i32_187 : BitVec 32 := 1#32
  let arg17 : BitVec 32 := Scf.iv c0_i32_186 c1_i32_187 k0_t1
  let v638 : Index := Scalar.indexCast arg17
  ![12, v638.toNat]
def k0_mult13 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_243 : BitVec 32 := 128#32
  let v646 : BitVec 32 := Scalar.muli arg17 c128_i32_243
  v646
def k0_off27 (k0_t1 : Fin k0_t1_loop.trips) : Fin 2 → Nat :=
  let c1536_244 : Index := 1536#32
  let c0_i32_186 : BitVec 32 := 0#32
  let c1_i32_187 : BitVec 32 := 1#32
  let arg17 : BitVec 32 := Scf.iv c0_i32_186 c1_i32_187 k0_t1
  let c128_i32_243 : BitVec 32 := 128#32
  let v646 : BitVec 32 := Scalar.muli arg17 c128_i32_243
  let v647 : BitVec 32 := v646
  let v648 : Index := Scalar.indexCast v647
  ![1536, v648.toNat]
def k0_off28 (k0_t1 : Fin k0_t1_loop.trips) : Fin 2 → Nat :=
  let c13 : Index := 13#32
  let c0_i32_186 : BitVec 32 := 0#32
  let c1_i32_187 : BitVec 32 := 1#32
  let arg17 : BitVec 32 := Scf.iv c0_i32_186 c1_i32_187 k0_t1
  let v652 : Index := Scalar.indexCast arg17
  ![13, v652.toNat]
def k0_mult14 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_247 : BitVec 32 := 128#32
  let v660 : BitVec 32 := Scalar.muli arg17 c128_i32_247
  v660
def k0_off29 (k0_t1 : Fin k0_t1_loop.trips) : Fin 2 → Nat :=
  let c1664_248 : Index := 1664#32
  let c0_i32_186 : BitVec 32 := 0#32
  let c1_i32_187 : BitVec 32 := 1#32
  let arg17 : BitVec 32 := Scf.iv c0_i32_186 c1_i32_187 k0_t1
  let c128_i32_247 : BitVec 32 := 128#32
  let v660 : BitVec 32 := Scalar.muli arg17 c128_i32_247
  let v661 : BitVec 32 := v660
  let v662 : Index := Scalar.indexCast v661
  ![1664, v662.toNat]
def k0_off30 (k0_t1 : Fin k0_t1_loop.trips) : Fin 2 → Nat :=
  let c14 : Index := 14#32
  let c0_i32_186 : BitVec 32 := 0#32
  let c1_i32_187 : BitVec 32 := 1#32
  let arg17 : BitVec 32 := Scf.iv c0_i32_186 c1_i32_187 k0_t1
  let v666 : Index := Scalar.indexCast arg17
  ![14, v666.toNat]
def k0_mult15 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_251 : BitVec 32 := 128#32
  let v674 : BitVec 32 := Scalar.muli arg17 c128_i32_251
  v674
def k0_off31 (k0_t1 : Fin k0_t1_loop.trips) : Fin 2 → Nat :=
  let c1792_252 : Index := 1792#32
  let c0_i32_186 : BitVec 32 := 0#32
  let c1_i32_187 : BitVec 32 := 1#32
  let arg17 : BitVec 32 := Scf.iv c0_i32_186 c1_i32_187 k0_t1
  let c128_i32_251 : BitVec 32 := 128#32
  let v674 : BitVec 32 := Scalar.muli arg17 c128_i32_251
  let v675 : BitVec 32 := v674
  let v676 : Index := Scalar.indexCast v675
  ![1792, v676.toNat]
def k0_off32 (k0_t1 : Fin k0_t1_loop.trips) : Fin 2 → Nat :=
  let c15 : Index := 15#32
  let c0_i32_186 : BitVec 32 := 0#32
  let c1_i32_187 : BitVec 32 := 1#32
  let arg17 : BitVec 32 := Scf.iv c0_i32_186 c1_i32_187 k0_t1
  let v680 : Index := Scalar.indexCast arg17
  ![15, v680.toNat]
def k0_mult16 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_255 : BitVec 32 := 128#32
  let v688 : BitVec 32 := Scalar.muli arg17 c128_i32_255
  v688
def k0_off33 (k0_t1 : Fin k0_t1_loop.trips) : Fin 2 → Nat :=
  let c1920_256 : Index := 1920#32
  let c0_i32_186 : BitVec 32 := 0#32
  let c1_i32_187 : BitVec 32 := 1#32
  let arg17 : BitVec 32 := Scf.iv c0_i32_186 c1_i32_187 k0_t1
  let c128_i32_255 : BitVec 32 := 128#32
  let v688 : BitVec 32 := Scalar.muli arg17 c128_i32_255
  let v689 : BitVec 32 := v688
  let v690 : Index := Scalar.indexCast v689
  ![1920, v690.toNat]
def k0_off34 (k0_t1 : Fin k0_t1_loop.trips) : Fin 2 → Nat :=
  let c16 : Index := 16#32
  let c0_i32_186 : BitVec 32 := 0#32
  let c1_i32_187 : BitVec 32 := 1#32
  let arg17 : BitVec 32 := Scf.iv c0_i32_186 c1_i32_187 k0_t1
  let v694 : Index := Scalar.indexCast arg17
  ![16, v694.toNat]
def k0_mult17 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_258 : BitVec 32 := 128#32
  let v702 : BitVec 32 := Scalar.muli arg17 c128_i32_258
  v702
def k0_off35 (k0_t1 : Fin k0_t1_loop.trips) : Fin 2 → Nat :=
  let c2048_259 : Index := 2048#32
  let c0_i32_186 : BitVec 32 := 0#32
  let c1_i32_187 : BitVec 32 := 1#32
  let arg17 : BitVec 32 := Scf.iv c0_i32_186 c1_i32_187 k0_t1
  let c128_i32_258 : BitVec 32 := 128#32
  let v702 : BitVec 32 := Scalar.muli arg17 c128_i32_258
  let v703 : BitVec 32 := v702
  let v704 : Index := Scalar.indexCast v703
  ![2048, v704.toNat]
def k0_off36 (k0_t1 : Fin k0_t1_loop.trips) : Fin 2 → Nat :=
  let c17 : Index := 17#32
  let c0_i32_186 : BitVec 32 := 0#32
  let c1_i32_187 : BitVec 32 := 1#32
  let arg17 : BitVec 32 := Scf.iv c0_i32_186 c1_i32_187 k0_t1
  let v708 : Index := Scalar.indexCast arg17
  ![17, v708.toNat]
def k0_mult18 (k0_t1 : Fin k0_t1_loop.trips) : BitVec 32 :=
  let c0_i32_186 : BitVec 32 := 0#32
  let c1_i32_187 : BitVec 32 := 1#32
  let arg17 : BitVec 32 := Scf.iv c0_i32_186 c1_i32_187 k0_t1
  let c128_i32_261 : BitVec 32 := 128#32
  let v716 : BitVec 32 := Scalar.muli arg17 c128_i32_261
  v716
def k0_off37 (k0_t1 : Fin k0_t1_loop.trips) : Fin 2 → Nat :=
  let c2176_262 : Index := 2176#32
  let c0_i32_186 : BitVec 32 := 0#32
  let c1_i32_187 : BitVec 32 := 1#32
  let arg17 : BitVec 32 := Scf.iv c0_i32_186 c1_i32_187 k0_t1
  let c128_i32_261 : BitVec 32 := 128#32
  let v716 : BitVec 32 := Scalar.muli arg17 c128_i32_261
  let v717 : BitVec 32 := v716
  let v718 : Index := Scalar.indexCast v717
  ![2176, v718.toNat]
@[reducible] def k0_t2_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult19 (k0_t2 : Fin k0_t2_loop.trips) : BitVec 32 :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  v465
def k0_off38 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v468 : Index := Scalar.indexCast v466
  let c0_187 : Index := 0#32
  ![v468.toNat, 0]
def k0_off39 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v474 : Index := Scalar.indexCast v466
  let c128_188 : Index := 128#32
  ![v474.toNat, 128]
def k0_off40 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v480 : Index := Scalar.indexCast v466
  let c256_189 : Index := 256#32
  ![v480.toNat, 256]
def k0_off41 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v486 : Index := Scalar.indexCast v466
  let c384_190 : Index := 384#32
  ![v486.toNat, 384]
def k0_off42 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v492 : Index := Scalar.indexCast v466
  let c512_191 : Index := 512#32
  ![v492.toNat, 512]
def k0_off43 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v498 : Index := Scalar.indexCast v466
  let c640_192 : Index := 640#32
  ![v498.toNat, 640]
def k0_off44 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v504 : Index := Scalar.indexCast v466
  let c768_193 : Index := 768#32
  ![v504.toNat, 768]
def k0_off45 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v510 : Index := Scalar.indexCast v466
  let c896_194 : Index := 896#32
  ![v510.toNat, 896]
def k0_off46 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v516 : Index := Scalar.indexCast v466
  let c1024_195 : Index := 1024#32
  ![v516.toNat, 1024]
def k0_off47 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v522 : Index := Scalar.indexCast v466
  let c1152_196 : Index := 1152#32
  ![v522.toNat, 1152]
def k0_off48 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v528 : Index := Scalar.indexCast v466
  let c1280_197 : Index := 1280#32
  ![v528.toNat, 1280]
def k0_off49 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v534 : Index := Scalar.indexCast v466
  let c1408_198 : Index := 1408#32
  ![v534.toNat, 1408]
def k0_off50 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v540 : Index := Scalar.indexCast v466
  let c1536_199 : Index := 1536#32
  ![v540.toNat, 1536]
def k0_off51 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v546 : Index := Scalar.indexCast v466
  let c1664_200 : Index := 1664#32
  ![v546.toNat, 1664]
def k0_off52 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v552 : Index := Scalar.indexCast v466
  let c1792_201 : Index := 1792#32
  ![v552.toNat, 1792]
def k0_off53 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v558 : Index := Scalar.indexCast v466
  let c1920_202 : Index := 1920#32
  ![v558.toNat, 1920]
def k0_off54 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v564 : Index := Scalar.indexCast v466
  let c2048 : Index := 2048#32
  ![v564.toNat, 2048]
def k0_off55 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v570 : Index := Scalar.indexCast v466
  let c2176 : Index := 2176#32
  ![v570.toNat, 2176]
def k0_off56 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v576 : Index := Scalar.indexCast v466
  let c2304 : Index := 2304#32
  ![v576.toNat, 2304]
def k0_off57 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v582 : Index := Scalar.indexCast v466
  let c2432 : Index := 2432#32
  ![v582.toNat, 2432]
def k0_off58 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v588 : Index := Scalar.indexCast v466
  let c2560 : Index := 2560#32
  ![v588.toNat, 2560]
def k0_off59 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v594 : Index := Scalar.indexCast v466
  let c2688 : Index := 2688#32
  ![v594.toNat, 2688]
def k0_off60 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v600 : Index := Scalar.indexCast v466
  let c2816 : Index := 2816#32
  ![v600.toNat, 2816]
def k0_off61 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v606 : Index := Scalar.indexCast v466
  let c2944 : Index := 2944#32
  ![v606.toNat, 2944]
def k0_off62 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v612 : Index := Scalar.indexCast v466
  let c3072 : Index := 3072#32
  ![v612.toNat, 3072]
def k0_off63 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v618 : Index := Scalar.indexCast v466
  let c3200 : Index := 3200#32
  ![v618.toNat, 3200]
def k0_off64 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v624 : Index := Scalar.indexCast v466
  let c3328 : Index := 3328#32
  ![v624.toNat, 3328]
def k0_off65 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v630 : Index := Scalar.indexCast v466
  let c3456 : Index := 3456#32
  ![v630.toNat, 3456]
def k0_off66 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v636 : Index := Scalar.indexCast v466
  let c3584 : Index := 3584#32
  ![v636.toNat, 3584]
def k0_off67 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v642 : Index := Scalar.indexCast v466
  let c3712 : Index := 3712#32
  ![v642.toNat, 3712]
def k0_off68 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v648 : Index := Scalar.indexCast v466
  let c3840 : Index := 3840#32
  ![v648.toNat, 3840]
def k0_off69 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v654 : Index := Scalar.indexCast v466
  let c3968 : Index := 3968#32
  ![v654.toNat, 3968]
def k0_off70 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v660 : Index := Scalar.indexCast v466
  let c4096 : Index := 4096#32
  ![v660.toNat, 4096]
def k0_off71 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v666 : Index := Scalar.indexCast v466
  let c4224 : Index := 4224#32
  ![v666.toNat, 4224]
def k0_off72 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v672 : Index := Scalar.indexCast v466
  let c4352 : Index := 4352#32
  ![v672.toNat, 4352]
def k0_off73 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v678 : Index := Scalar.indexCast v466
  let c4480 : Index := 4480#32
  ![v678.toNat, 4480]
def k0_off74 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v684 : Index := Scalar.indexCast v466
  let c4608 : Index := 4608#32
  ![v684.toNat, 4608]
def k0_off75 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v690 : Index := Scalar.indexCast v466
  let c4736 : Index := 4736#32
  ![v690.toNat, 4736]
def k0_off76 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v696 : Index := Scalar.indexCast v466
  let c4864 : Index := 4864#32
  ![v696.toNat, 4864]
def k0_off77 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v702 : Index := Scalar.indexCast v466
  let c4992 : Index := 4992#32
  ![v702.toNat, 4992]
def k0_off78 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v708 : Index := Scalar.indexCast v466
  let c5120 : Index := 5120#32
  ![v708.toNat, 5120]
def k0_off79 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v714 : Index := Scalar.indexCast v466
  let c5248 : Index := 5248#32
  ![v714.toNat, 5248]
def k0_off80 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v720 : Index := Scalar.indexCast v466
  let c5376 : Index := 5376#32
  ![v720.toNat, 5376]
def k0_off81 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v726 : Index := Scalar.indexCast v466
  let c5504 : Index := 5504#32
  ![v726.toNat, 5504]
def k0_off82 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v732 : Index := Scalar.indexCast v466
  let c5632 : Index := 5632#32
  ![v732.toNat, 5632]
def k0_off83 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v738 : Index := Scalar.indexCast v466
  let c5760 : Index := 5760#32
  ![v738.toNat, 5760]
def k0_off84 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v744 : Index := Scalar.indexCast v466
  let c5888 : Index := 5888#32
  ![v744.toNat, 5888]
def k0_off85 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v750 : Index := Scalar.indexCast v466
  let c6016 : Index := 6016#32
  ![v750.toNat, 6016]
def k0_off86 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v756 : Index := Scalar.indexCast v466
  let c6144 : Index := 6144#32
  ![v756.toNat, 6144]
def k0_off87 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v762 : Index := Scalar.indexCast v466
  let c6272 : Index := 6272#32
  ![v762.toNat, 6272]
def k0_off88 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v768 : Index := Scalar.indexCast v466
  let c6400 : Index := 6400#32
  ![v768.toNat, 6400]
def k0_off89 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v774 : Index := Scalar.indexCast v466
  let c6528 : Index := 6528#32
  ![v774.toNat, 6528]
def k0_off90 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v780 : Index := Scalar.indexCast v466
  let c6656 : Index := 6656#32
  ![v780.toNat, 6656]
def k0_off91 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v786 : Index := Scalar.indexCast v466
  let c6784 : Index := 6784#32
  ![v786.toNat, 6784]
def k0_off92 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v792 : Index := Scalar.indexCast v466
  let c6912 : Index := 6912#32
  ![v792.toNat, 6912]
def k0_off93 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v798 : Index := Scalar.indexCast v466
  let c7040 : Index := 7040#32
  ![v798.toNat, 7040]
def k0_off94 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v804 : Index := Scalar.indexCast v466
  let c7168 : Index := 7168#32
  ![v804.toNat, 7168]
def k0_off95 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v810 : Index := Scalar.indexCast v466
  let c7296 : Index := 7296#32
  ![v810.toNat, 7296]
def k0_off96 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v816 : Index := Scalar.indexCast v466
  let c7424 : Index := 7424#32
  ![v816.toNat, 7424]
def k0_off97 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v822 : Index := Scalar.indexCast v466
  let c7552 : Index := 7552#32
  ![v822.toNat, 7552]
def k0_off98 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v828 : Index := Scalar.indexCast v466
  let c7680 : Index := 7680#32
  ![v828.toNat, 7680]
def k0_off99 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v834 : Index := Scalar.indexCast v466
  let c7808 : Index := 7808#32
  ![v834.toNat, 7808]
def k0_off100 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v840 : Index := Scalar.indexCast v466
  let c7936 : Index := 7936#32
  ![v840.toNat, 7936]
def k0_off101 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v846 : Index := Scalar.indexCast v466
  let c8064 : Index := 8064#32
  ![v846.toNat, 8064]
def k0_off102 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v465 : BitVec 32 := Scalar.muli arg17 c32_i32
  let v466 : BitVec 32 := v465
  let v6557 : Index := Scalar.indexCast v466
  let c0_1612 : Index := 0#32
  ![v6557.toNat, 0]
def k0_off103 (i : grid0.Coords) : Fin 1 → Nat :=
  let arg0 : BitVec 32 := BitVec.ofNat 32 (i 0).val
  let c0_i32_7 : BitVec 32 := 0#32
  let v11 : BitVec 1 := Scalar.cmpi .sgt arg0 c0_i32_7
  let v12 : BitVec 32 := Scalar.extui v11
  let c0_i32_8 : BitVec 32 := 0#32
  let v13 : BitVec 1 := Scalar.cmpi .slt arg0 c0_i32_8
  let v14 : BitVec 32 := Scalar.extui v13
  let v15 : BitVec 32 := Scalar.subi v12 v14
  let c24_i32 : BitVec 32 := 24#32
  let c0_i32_9 : BitVec 32 := 0#32
  let v16 : BitVec 1 := Scalar.cmpi .sgt c24_i32 c0_i32_9
  let v17 : BitVec 32 := Scalar.extui v16
  let c0_i32_10 : BitVec 32 := 0#32
  let v18 : BitVec 1 := Scalar.cmpi .slt c24_i32 c0_i32_10
  let v19 : BitVec 32 := Scalar.extui v18
  let v20 : BitVec 32 := Scalar.subi v17 v19
  let v21 : BitVec 1 := Scalar.cmpi .ne v15 v20
  let v22 : BitVec 32 := Scalar.remsi arg0 c24_i32
  let c0_i32_11 : BitVec 32 := 0#32
  let v23 : BitVec 1 := Scalar.cmpi .ne v22 c0_i32_11
  let v24 : BitVec 1 := Scalar.andi v21 v23
  let v10 : BitVec 32 := Scalar.divsi arg0 c24_i32
  let c1_i32_12 : BitVec 32 := 1#32
  let v25 : BitVec 32 := Scalar.subi v10 c1_i32_12
  let v26 : BitVec 32 := Scalar.select v24 v25 v10
  let v38 : Index := Scalar.indexCast v26
  ![v38.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c24_i32 : BitVec 32 := 24#32
  let v0 : BitVec 32 := Scalar.divsi arg0 c24_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg0 c24_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32_4 : BitVec 32 := 24#32
  let c0_i32_5 : BitVec 32 := 0#32
  let v17 : BitVec 1 := Scalar.cmpi .eq c24_i32_4 c0_i32_5
  let c1_i32_6 : BitVec 32 := 1#32
  let v18 : BitVec 32 := Scalar.select v17 c1_i32_6 c24_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c24_i32 : BitVec 32 := 24#32
  let v0 : BitVec 32 := Scalar.divsi arg0 c24_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg0 c24_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32_4 : BitVec 32 := 24#32
  let c0_i32_5 : BitVec 32 := 0#32
  let v17 : BitVec 1 := Scalar.cmpi .eq c24_i32_4 c0_i32_5
  let c1_i32_6 : BitVec 32 := 1#32
  let v18 : BitVec 32 := Scalar.select v17 c1_i32_6 c24_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c24_i32 : BitVec 32 := 24#32
  let v0 : BitVec 32 := Scalar.divsi arg0 c24_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg0 c24_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32_4 : BitVec 32 := 24#32
  let c0_i32_5 : BitVec 32 := 0#32
  let v17 : BitVec 1 := Scalar.cmpi .eq c24_i32_4 c0_i32_5
  let c1_i32_6 : BitVec 32 := 1#32
  let v18 : BitVec 32 := Scalar.select v17 c1_i32_6 c24_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c24_i32 : BitVec 32 := 24#32
  let v0 : BitVec 32 := Scalar.divsi arg0 c24_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg0 c24_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32_4 : BitVec 32 := 24#32
  let c0_i32_5 : BitVec 32 := 0#32
  let v17 : BitVec 1 := Scalar.cmpi .eq c24_i32_4 c0_i32_5
  let c1_i32_6 : BitVec 32 := 1#32
  let v18 : BitVec 32 := Scalar.select v17 c1_i32_6 c24_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S18x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8192 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4x6144x8192 : Shape := ⟨3, ![4, 6144, 8192]⟩
abbrev S8192 : Shape := ⟨1, ![8192]⟩
abbrev S8192x2304 : Shape := ⟨2, ![8192, 2304]⟩
abbrev S64x18 : Shape := ⟨2, ![64, 18]⟩
abbrev S4 : Shape := ⟨1, ![4]⟩
abbrev S64 : Shape := ⟨1, ![64]⟩
abbrev S_ : Shape := ⟨0, ![]⟩
abbrev S4x6144 : Shape := ⟨2, ![4, 6144]⟩
abbrev S4x6144x1 : Shape := ⟨3, ![4, 6144, 1]⟩
abbrev S1x1x8192 : Shape := ⟨3, ![1, 1, 8192]⟩
abbrev S4x6144x64x128 : Shape := ⟨4, ![4, 6144, 64, 128]⟩
abbrev S4x6144x64 : Shape := ⟨3, ![4, 6144, 64]⟩
abbrev S4x6144x64x1 : Shape := ⟨4, ![4, 6144, 64, 1]⟩
abbrev S64x128x18x128 : Shape := ⟨4, ![64, 128, 18, 128]⟩
abbrev S64x1x18x1 : Shape := ⟨4, ![64, 1, 18, 1]⟩
abbrev S4x6144x2304 : Shape := ⟨3, ![4, 6144, 2304]⟩
abbrev S4x6144x2048 : Shape := ⟨3, ![4, 6144, 2048]⟩
abbrev S4x6144x32x64 : Shape := ⟨4, ![4, 6144, 32, 64]⟩
abbrev S4x6144x128 : Shape := ⟨3, ![4, 6144, 128]⟩
abbrev S4x6144x2x64 : Shape := ⟨4, ![4, 6144, 2, 64]⟩
abbrev S4x1 : Shape := ⟨2, ![4, 1]⟩
abbrev S6144 : Shape := ⟨1, ![6144]⟩
abbrev S1x6144 : Shape := ⟨2, ![1, 6144]⟩
abbrev S1x1x64 : Shape := ⟨3, ![1, 1, 64]⟩
abbrev S4x6144x1x64 : Shape := ⟨4, ![4, 6144, 1, 64]⟩
abbrev S4x6144x32x63 : Shape := ⟨4, ![4, 6144, 32, 63]⟩
abbrev S4x6144x32x1 : Shape := ⟨4, ![4, 6144, 32, 1]⟩
abbrev S4x6144x2x63 : Shape := ⟨4, ![4, 6144, 2, 63]⟩
abbrev S4x6144x2x1 : Shape := ⟨4, ![4, 6144, 2, 1]⟩

abbrev nBuf : Space → Nat
  | .hbm => 141
  | .vmem => 5
  | .smem => 0
  | _ => 0

abbrev hbmTy0_0 (i : Nat) : BufTy := match i % 128 with
  | 0 => ⟨S4x6144x8192, .bf16⟩
  | 1 => ⟨S8192, .bf16⟩
  | 2 => ⟨S8192x2304, .fp8e4m3⟩
  | 3 => ⟨S64x18, .f32⟩
  | 4 => ⟨S4, .i32⟩
  | 5 => ⟨S64, .f32⟩
  | 6 => ⟨S4x6144x8192, .f32⟩
  | 7 => ⟨S4x6144x8192, .f32⟩
  | 8 => ⟨S_, .f32⟩
  | 9 => ⟨S4x6144, .f32⟩
  | 10 => ⟨S4x6144x1, .f32⟩
  | 11 => ⟨S_, .f32⟩
  | 12 => ⟨S4x6144x1, .f32⟩
  | 13 => ⟨S4x6144x1, .f32⟩
  | 14 => ⟨S_, .f32⟩
  | 15 => ⟨S4x6144x1, .f32⟩
  | 16 => ⟨S4x6144x1, .f32⟩
  | 17 => ⟨S4x6144x1, .f32⟩
  | 18 => ⟨S4x6144x8192, .f32⟩
  | 19 => ⟨S4x6144x8192, .f32⟩
  | 20 => ⟨S8192, .f32⟩
  | 21 => ⟨S1x1x8192, .f32⟩
  | 22 => ⟨S4x6144x8192, .f32⟩
  | 23 => ⟨S4x6144x8192, .f32⟩
  | 24 => ⟨S4x6144x64x128, .f32⟩
  | 25 => ⟨S4x6144x64x128, .f32⟩
  | 26 => ⟨S_, .f32⟩
  | 27 => ⟨S4x6144x64, .f32⟩
  | 28 => ⟨S_, .f32⟩
  | 29 => ⟨S4x6144x64, .f32⟩
  | 30 => ⟨S4x6144x64, .f32⟩
  | 31 => ⟨S4x6144x64, .f32⟩
  | 32 => ⟨S_, .f32⟩
  | 33 => ⟨S_, .f32⟩
  | 34 => ⟨S4x6144x64, .f32⟩
  | 35 => ⟨S4x6144x64, .f32⟩
  | 36 => ⟨S4x6144x64, .f32⟩
  | 37 => ⟨S_, .f32⟩
  | 38 => ⟨S4x6144x64, .f32⟩
  | 39 => ⟨S4x6144x64, .f32⟩
  | 40 => ⟨S_, .f32⟩
  | 41 => ⟨S4x6144x64, .f32⟩
  | 42 => ⟨S4x6144x64, .i1⟩
  | 43 => ⟨S_, .f32⟩
  | 44 => ⟨S_, .f32⟩
  | 45 => ⟨S4x6144x64, .f32⟩
  | 46 => ⟨S4x6144x64, .f32⟩
  | 47 => ⟨S_, .f32⟩
  | 48 => ⟨S4x6144x64, .f32⟩
  | 49 => ⟨S4x6144x64, .f32⟩
  | 50 => ⟨S4x6144x64, .f32⟩
  | 51 => ⟨S_, .f32⟩
  | 52 => ⟨S4x6144x64, .f32⟩
  | 53 => ⟨S4x6144x64, .f32⟩
  | 54 => ⟨S4x6144x64x1, .f32⟩
  | 55 => ⟨S4x6144x64x128, .f32⟩
  | 56 => ⟨S4x6144x64x128, .f32⟩
  | 57 => ⟨S_, .f32⟩
  | 58 => ⟨S4x6144x64x128, .f32⟩
  | 59 => ⟨S4x6144x64x128, .f32⟩
  | 60 => ⟨S_, .f32⟩
  | 61 => ⟨S4x6144x64x128, .f32⟩
  | 62 => ⟨S4x6144x64x128, .f32⟩
  | 63 => ⟨S4x6144x8192, .f32⟩
  | 64 => ⟨S4x6144x8192, .fp8e4m3⟩
  | 65 => ⟨S4x6144x8192, .bf16⟩
  | 66 => ⟨S8192x2304, .bf16⟩
  | 67 => ⟨S4x6144x64x128, .bf16⟩
  | 68 => ⟨S4x6144x64, .bf16⟩
  | 69 => ⟨S4x6144x64x1, .bf16⟩
  | 70 => ⟨S4x6144x64x128, .bf16⟩
  | 71 => ⟨S4x6144x64x128, .bf16⟩
  | 72 => ⟨S4x6144x8192, .bf16⟩
  | 73 => ⟨S64x128x18x128, .bf16⟩
  | 74 => ⟨S64x18, .bf16⟩
  | 75 => ⟨S64x1x18x1, .bf16⟩
  | 76 => ⟨S64x128x18x128, .bf16⟩
  | 77 => ⟨S64x128x18x128, .bf16⟩
  | 78 => ⟨S8192x2304, .bf16⟩
  | 79 => ⟨S4x6144x2304, .f32⟩
  | 80 => ⟨S4x6144x2048, .f32⟩
  | 81 => ⟨S4x6144x32x64, .f32⟩
  | 82 => ⟨S4x6144x128, .f32⟩
  | 83 => ⟨S4x6144x2x64, .f32⟩
  | 84 => ⟨S4x6144x128, .f32⟩
  | 85 => ⟨S4x6144x2x64, .f32⟩
  | 86 => ⟨S4x1, .i32⟩
  | 87 => ⟨S6144, .i32⟩
  | 88 => ⟨S1x6144, .i32⟩
  | 89 => ⟨S4x6144, .i32⟩
  | 90 => ⟨S4x6144, .i32⟩
  | 91 => ⟨S4x6144, .i32⟩
  | 92 => ⟨S4x6144, .f32⟩
  | 93 => ⟨S4x6144x1, .f32⟩
  | 94 => ⟨S1x1x64, .f32⟩
  | 95 => ⟨S4x6144x64, .f32⟩
  | 96 => ⟨S4x6144x64, .f32⟩
  | 97 => ⟨S4x6144x64, .f32⟩
  | 98 => ⟨S64, .i32⟩
  | 99 => ⟨S_, .i32⟩
  | 100 => ⟨S64, .i32⟩
  | 101 => ⟨S64, .i32⟩
  | 102 => ⟨S_, .i32⟩
  | 103 => ⟨S64, .i32⟩
  | 104 => ⟨S64, .i1⟩
  | 105 => ⟨S4x6144x64, .f32⟩
  | 106 => ⟨S4x6144x1x64, .f32⟩
  | 107 => ⟨S4x6144x64, .f32⟩
  | 108 => ⟨S4x6144x64, .f32⟩
  | 109 => ⟨S4x6144x64, .i1⟩
  | 110 => ⟨S4x6144x64, .f32⟩
  | 111 => ⟨S4x6144x1x64, .f32⟩
  | 112 => ⟨S4x6144x32x63, .f32⟩
  | 113 => ⟨S4x6144x32x1, .f32⟩
  | 114 => ⟨S4x6144x32x64, .f32⟩
  | 115 => ⟨S4x6144x32x1, .f32⟩
  | 116 => ⟨S4x6144x32x63, .f32⟩
  | 117 => ⟨S4x6144x32x64, .f32⟩
  | 118 => ⟨S4x6144x32x64, .i1⟩
  | 119 => ⟨S4x6144x32x64, .f32⟩
  | 120 => ⟨S4x6144x32x64, .f32⟩
  | 121 => ⟨S4x6144x32x64, .f32⟩
  | 122 => ⟨S4x6144x32x64, .f32⟩
  | 123 => ⟨S4x6144x32x64, .f32⟩
  | 124 => ⟨S4x6144x32x64, .f32⟩
  | 125 => ⟨S4x6144x32x64, .bf16⟩
  | 126 => ⟨S4x6144x2x63, .f32⟩
  | 127 => ⟨S4x6144x2x1, .f32⟩
  | _ => ⟨S4x6144x8192, .bf16⟩

abbrev hbmTy0_1 (i : Nat) : BufTy := match i % 128 with
  | 0 => ⟨S4x6144x2x64, .f32⟩
  | 1 => ⟨S4x6144x2x1, .f32⟩
  | 2 => ⟨S4x6144x2x63, .f32⟩
  | 3 => ⟨S4x6144x2x64, .f32⟩
  | 4 => ⟨S4x6144x2x64, .i1⟩
  | 5 => ⟨S4x6144x2x64, .f32⟩
  | 6 => ⟨S4x6144x2x64, .f32⟩
  | 7 => ⟨S4x6144x2x64, .f32⟩
  | 8 => ⟨S4x6144x2x64, .f32⟩
  | 9 => ⟨S4x6144x2x64, .f32⟩
  | 10 => ⟨S4x6144x2x64, .f32⟩
  | 11 => ⟨S4x6144x2x64, .bf16⟩
  | 12 => ⟨S4x6144x2x64, .bf16⟩
  | _ => ⟨S4x6144x8192, .bf16⟩

abbrev hbmTy (i : Nat) : BufTy := match i / 128 with
  | 0 => hbmTy0_0 i
  | 1 => hbmTy0_1 i
  | _ => ⟨S4x6144x8192, .bf16⟩

abbrev bufTy : (tb : Table) → Fin (tcTables nBuf tb) → BufTy
  | .hbm, ⟨i, _⟩ => hbmTy i
  | .local _ .vmem, ⟨0, _⟩ => ⟨S4x6144x8192, .f32⟩
  | .local _ .vmem, ⟨1, _⟩ => ⟨S8192x2304, .fp8e4m3⟩
  | .local _ .vmem, ⟨2, _⟩ => ⟨S4x6144x8192, .fp8e4m3⟩
  | .local _ .vmem, ⟨3, _⟩ => ⟨S4x6144x8192, .bf16⟩
  | .local _ .vmem, ⟨4, _⟩ => ⟨S8192x2304, .bf16⟩
  | _, _ => ⟨S4x6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_call0_v0 : Ref sig .tc := ⟨.hbm, 44, rfl⟩
abbrev main_call0_v1 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43_0 : Ref sig .tc := ⟨.hbm, 64, rfl⟩
abbrev main_v43_1 : Ref sig .tc := ⟨.hbm, 65, rfl⟩
abbrev main_v43_2 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c : Ref sig .tc := ⟨.hbm, 99, rfl⟩
abbrev main_v76 : Ref sig .tc := ⟨.hbm, 100, rfl⟩
abbrev main_v77 : Ref sig .tc := ⟨.hbm, 101, rfl⟩
abbrev main_c_13 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call1_v0 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_call2_v0 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_call3_v0 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x6144x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x6144x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x6144x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Group.lean ====
module

public import proofs.«01_k».proof.Proof.Gen.KernelIdeal.Frame

@[expose] public section
noncomputable section
namespace Cert.KernelIdeal.Hand
open Cert.KernelIdeal Cert.KernelIdeal.Gen Idealize.ShloMosaic Idealize.ShloMosaic.TcCoe Idealize.SL.Sem
variable {F : FTy → Type} [FloatOps F]

/-! # What one trip of the quantisation loop writes

A trip handles 32 rows of the block. It reads 64 groups of 128 columns, and for every group it writes the fp8 codes
and the dequantised values, and after the last group the row of scales. Every group's computation is the same
function of the group's number, named here once. -/

/-- The groups in the order the trip visits them. -/
def groups : List (Fin 64) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63]

section
variable (x : Fin 64 → Vec F S32x128 .bf16) (w : Fin 64 → Vec F S1x128 .f32)

/-- A group's values in f32. -/
def xeC (g : Fin 64) : FVec F S32x128 .f32 := extf .f32 (shapeCast S32x128 (x g) shapeCasts_S32x128_S32x128) bitsLt_bf16_f32

/-- Lane by lane, the sum of squares over the groups. -/
def accC : FVec F S32x128 .f32 :=
  groups.foldl (fun acc g => addf acc (mulf (xeC x g) (xeC x g))) (broadcast S32x128 (Scalar.ofBits .f32 0x00000000#32 : F .f32))

/-- The reciprocal root mean square of every row. -/
def rC : FVec F S32x1 .f32 :=
  rsqrt (addf (mulf (shapeCast S32x1 (multiReduction .add [1] S32 (accC x) 0x00000000#32 reduces_S32x128_S32 (.inl rfl) rfl) shapeCasts_S32_S32x1)
    (broadcast S32x1 (Scalar.ofBits .f32 0x39000000#32 : F .f32))) (broadcast S32x1 (Scalar.ofBits .f32 0x358637BD#32 : F .f32)))

/-- A group of the normalised rows. -/
def hC (g : Fin 64) : FVec F S32x128 .f32 :=
  mulf (mulf (xeC x g) (broadcastTo S32x128 (rC x) broadcasts_S32x1_S32x128))
    (broadcastTo S32x128 (shapeCast S1x128 (w g) shapeCasts_S1x128_S1x128) broadcasts_S1x128_S32x128)

/-- A row's greatest magnitude in the group over 448. -/
def tC (h : FVec F S32x128 .f32) : FVec F S32x1 .f32 :=
  mulf (shapeCast S32x1 (multiReduction .maximumf [1] S32 (absf h) 0xFF800000#32 reduces_S32x128_S32 (.inl rfl) rfl) shapeCasts_S32_S32x1)
    (broadcast S32x1 (Scalar.ofBits .f32 0x3B124925#32 : F .f32))

/-- The bits of the exponent field, from the greatest. -/
def fieldBits : List (BitVec 32) :=
  [1073741824#32, 536870912#32, 268435456#32, 134217728#32, 67108864#32, 33554432#32, 16777216#32, 8388608#32]

/-- The exponent field of `t` by bisection. -/
def searchC (t : FVec F S32x1 .f32) : IVec S32x1 32 :=
  fieldBits.foldl (fun tb b => select (cmpf .olt t (bitcastToFloat .f32 (ori tb (broadcast S32x1 b)))) tb (ori tb (broadcast S32x1 b)))
    (broadcast S32x1 0#32)

/-- The field with a zero field read as that of 1/2. -/
def expC (tb : IVec S32x1 32) : IVec S32x1 32 :=
  select (cmpi .eq tb (broadcast S32x1 0#32)) (broadcast S32x1 1056964608#32) tb

/-- The group's scale. -/
def scaleC (tb : IVec S32x1 32) : FVec F S32x1 .f32 := bitcastToFloat .f32 (addi (expC tb) (broadcast S32x1 8388608#32))

/-- Its reciprocal. -/
def invC (tb : IVec S32x1 32) : FVec F S32x1 .f32 := bitcastToFloat .f32 (subi (broadcast S32x1 2122317824#32) (expC tb))

/-- The exponent field of a group. -/
def tbC (g : Fin 64) : IVec S32x1 32 := searchC (tC (hC x w g))

/-- The codes of a group. -/
def codesC (g : Fin 64) : FVec F S32x128 .fp8e4m3 :=
  truncf .fp8e4m3 (minimumf (broadcast S32x128 (Scalar.ofBits .f32 0x43E00000#32 : F .f32))
    (maximumf (broadcast S32x128 (Scalar.ofBits .f32 0xC3E00000#32 : F .f32))
      (mulf (hC x w g) (broadcastTo S32x128 (invC (tbC x w g)) broadcasts_S32x1_S32x128)))) bitsLt_fp8e4m3_f32

/-- The dequantised group. -/
def xaC (g : Fin 64) : FVec F S32x128 .bf16 :=
  shapeCast S32x128 (mulf (extf .bf16 (codesC x w g) bitsLt_fp8e4m3_bf16)
    (truncf .bf16 (broadcastTo S32x128 (shapeCast S32x1 (scaleC (F := F) (tbC x w g)) shapeCasts_S32x1_S32x1) broadcasts_S32x1_S32x128) bitsLt_bf16_f32))
    shapeCasts_S32x128_S32x128

/-- The scales of the groups, one lane each. -/
def packedC : FVec F S32x128 .f32 :=
  shapeCast S32x128 (groups.foldl (fun p g => select (cmpi .eq (iota .tc S32x128 32 [1] iota_S32x128_d1_w32) (broadcast S32x128 (BitVec.ofNat 32 g.val)))
      (broadcastTo S32x128 (shapeCast S32x1 (scaleC (F := F) (tbC x w g)) shapeCasts_S32x1_S32x1) broadcasts_S32x1_S32x128) p)
    (broadcast S32x128 (Scalar.ofBits .f32 0x3F800000#32 : F .f32))) shapeCasts_S32x128_S32x128
end

/-- Where trip `k` finds group `g`. -/
def offU (k : Fin k0_t2_loop.trips) (g : Fin 64) : Fin 2 → Nat :=
  ![(Scalar.indexCast (Scalar.muli (Scf.iv 0#32 1#32 k) 32#32) : BitVec 32).toNat, 128 * g.val]

theorem offU_inb : ∀ (k : Fin k0_t2_loop.trips) (g : Fin 64), ∀ a, offU k g a + S32x128.size a ≤ S256x8192.size a := by decide +kernel

theorem offW_inb : ∀ (g : Fin 64), ∀ a, (![0, 128 * g.val] : Fin 2 → Nat) a + S1x128.size a ≤ S1x8192.size a := by decide +kernel

/-- The groups in the order of a list of stores, last first. -/
def groupsRev : List (Fin 64) := [63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

section
variable (arg3 : Memref sig .tc .vmem S256x8192 .bf16) (arg4 : Memref sig .tc .vmem S1x8192 .f32)
  (X_arg3 : BufTy.Contents (Elt F) arg3.view.ty) (X_arg4 : BufTy.Contents (Elt F) arg4.view.ty) (k : Fin k0_t2_loop.trips)

/-- The trip's load of group `g`. -/
def xL (g : Fin 64) : Vec F S32x128 .bf16 :=
  View.readAt (Elt F) arg3.view (Rect.unit (s := S256x8192) (offU k g) S32x128.size (offU_inb k g)).toLoadRect X_arg3

/-- Its load of the weights of group `g`. -/
def wL (g : Fin 64) : Vec F S1x128 .f32 :=
  View.readAt (Elt F) arg4.view (Rect.unit (s := S1x8192) ![0, 128 * g.val] S1x128.size (offW_inb g)).toLoadRect X_arg4
end

theorem trip_codes (𝒱 : Variants) (c : Dev nD) (bd : Option 𝒱.V) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg6 : Memref sig .tc .hbm S8192x2304 .fp8e4m3) (harg6 : arg6.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (arg16 : DmaSems sig S_)
    (X_arg3 : BufTy.Contents (Elt F) arg3.view.ty) (X_arg4 : BufTy.Contents (Elt F) arg4.view.ty) (k : Fin k0_t2_loop.trips) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X_arg3 X_arg4 k).1
      = groupsRev.map fun g => ⟨Rect.unit (s := S256x8192) (offU k g) S32x128.size (offU_inb k g), codesC (xL arg3 X_arg3 k) (wL arg4 X_arg4) g⟩ := by
  unfold tripL_k0_t2 trip_k0_t2
  dsimp only
  sl_kernel_rfl

theorem trip_xa (𝒱 : Variants) (c : Dev nD) (bd : Option 𝒱.V) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg6 : Memref sig .tc .hbm S8192x2304 .fp8e4m3) (harg6 : arg6.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (arg16 : DmaSems sig S_)
    (X_arg3 : BufTy.Contents (Elt F) arg3.view.ty) (X_arg4 : BufTy.Contents (Elt F) arg4.view.ty) (k : Fin k0_t2_loop.trips) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X_arg3 X_arg4 k).2.1
      = groupsRev.map fun g => ⟨Rect.unit (s := S256x8192) (offU k g) S32x128.size (offU_inb k g), xaC (xL arg3 X_arg3 k) (wL arg4 X_arg4) g⟩ := by
  unfold tripL_k0_t2 trip_k0_t2
  dsimp only
  sl_kernel_rfl

theorem trip_packed (𝒱 : Variants) (c : Dev nD) (bd : Option 𝒱.V) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg6 : Memref sig .tc .hbm S8192x2304 .fp8e4m3) (harg6 : arg6.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (arg16 : DmaSems sig S_)
    (X_arg3 : BufTy.Contents (Elt F) arg3.view.ty) (X_arg4 : BufTy.Contents (Elt F) arg4.view.ty) (k : Fin k0_t2_loop.trips) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X_arg3 X_arg4 k).2.2
      = [⟨Rect.unit (s := S256x128) (k0_off102 k) S32x128.size (k0_off102_inb k), packedC (xL arg3 X_arg3 k) (wL arg4 X_arg4)⟩] := by
  unfold tripL_k0_t2 trip_k0_t2
  dsimp only
  sl_kernel_rfl

end Cert.KernelIdeal.Hand
-- ==== Proof.Spec.lean ====
module

public import Idealize.ShloMosaic.PureOps.Ideal
public import Idealize.ShloMosaic.PureOps.Ideal.Laws

@[expose] public section
noncomputable section
namespace Cert.Spec
open Idealize.ShloMosaic
open scoped BigOperators

/-! # A row's quantisation over the extended reals

What both programs compute from a row of 8192 values and the norm's weights, named once: the normalised row, a group's
greatest magnitude over 448, the power of two that scales the group, the codes and the dequantised values. -/

/-- A word's value. -/
abbrev B (b : BitVec 32) : EReal := Ideal.ofBits .f32 b

/-- A row's reciprocal root mean square. -/
def rinv (x : Fin 8192 → EReal) : EReal := Ideal.rsqrt ((∑ k, x k * x k) * B 0x39000000#32 + B 0x358637BD#32)

/-- The normalised row. -/
def nrm (x w : Fin 8192 → EReal) (j : Fin 8192) : EReal := x j * rinv x * w j

/-- Lane `l` of group `g`. -/
def col (g : Fin 64) (l : Fin 128) : Fin 8192 := ⟨128 * g.val + l.val, by omega⟩

/-- The group of a column. -/
def grp (j : Fin 8192) : Fin 64 := ⟨j.val / 128, by omega⟩

theorem grp_col (g : Fin 64) (l : Fin 128) : grp (col g l) = g := Fin.ext (by show (128 * g.val + l.val) / 128 = g.val; omega)

/-- A group's greatest magnitude. -/
def amax (x w : Fin 8192 → EReal) (g : Fin 64) : EReal :=
  (Finset.univ : Finset (Fin 128)).fold max (B 0xFF800000#32) fun l => max (nrm x w (col g l)) (-(nrm x w (col g l)))

/-- The greatest magnitude over 448. -/
def tmax (x w : Fin 8192 → EReal) (g : Fin 64) : EReal := amax x w g * B 0x3B124925#32

/-- The exponent of the scale. -/
def expo (t : EReal) : EReal :=
  if t < B 0x00800000#32 then 0 else Ideal.liftRound Int.floor (Ideal.div (Ideal.log t) (Ideal.log (B 0x40000000#32))) + B 0x3F800000#32

/-- The scale. -/
def scale (t : EReal) : EReal := Ideal.pow (B 0x40000000#32) (expo t)

/-- Its reciprocal. -/
def inv (t : EReal) : EReal := Ideal.pow (B 0x40000000#32) (-(expo t))

/-- The codes. -/
def code (x w : Fin 8192 → EReal) (j : Fin 8192) : EReal :=
  min (max (nrm x w j * inv (tmax x w (grp j))) (B 0xC3E00000#32)) (B 0x43E00000#32)

/-- The dequantised values. -/
def deq (x w : Fin 8192 → EReal) (j : Fin 8192) : EReal := code x w j * scale (tmax x w (grp j))

/-! ## Powers of two by their words -/

/-- The word whose exponent field is `c` and whose other bits are zero. -/
def wd (c : ℕ) : BitVec 32 := BitVec.ofNat 32 (c * 8388608)

theorem bits_fields : ∀ c : Fin 256, ((wd c.val).extractLsb' 31 1 == 1#1) = false
    ∧ ((wd c.val).extractLsb' 23 8).toNat = c.val ∧ ((wd c.val).extractLsb' 0 23).toNat = 0 := by decide +kernel

theorem B_def (w : BitVec 32) : B w = Ideal.ieee 8 23 w := rfl

theorem B_pow (c : ℕ) (h1 : 1 ≤ c) (h2 : c ≤ 254) : B (wd c) = (((2 : ℝ) ^ ((c : ℤ) - 127) : ℝ) : EReal) := by
  obtain ⟨a1, a2, a3⟩ := bits_fields ⟨c, by omega⟩
  rw [B_def]
  unfold Ideal.ieee
  simp only [Nat.reduceAdd] at *
  rw [a1, a2, a3]
  rw [if_neg (by norm_num; omega), if_neg (by omega)]
  congr 1
  rw [show ((c : ℤ) - 127) = (23 : ℤ) + ((c : ℤ) - (2 ^ (8 - 1) - 1) - (23 : ℕ)) by push_cast; ring, zpow_add₀ (by norm_num)]
  norm_num

theorem B_zero : B 0#32 = 0 := Ideal.ofBits_zero_f32

theorem B_top : B (wd 255) = ⊤ := by
  obtain ⟨a1, a2, a3⟩ := bits_fields ⟨255, by omega⟩
  rw [B_def]
  unfold Ideal.ieee
  simp only [Nat.reduceAdd] at *
  rw [a1, a2, a3]
  norm_num

/-! ## The exponent field by bisection -/

/-- The bits of the exponent field, from the greatest. -/
def bitsC : List ℕ := [128, 64, 32, 16, 8, 4, 2, 1]

/-- The bisection by a test of the fields. -/
def searchN (P : ℕ → Bool) : ℕ := bitsC.foldl (fun c b => if P (c ||| b) then c else c ||| b) 0

theorem search_field : (List.range 256).all (fun k => searchN (fun b => decide (k < b)) == k) = true := by decide +kernel

theorem or_closed : (List.range 256).all (fun c => bitsC.all fun b => (wd c ||| wd b == wd (c ||| b)) && decide ((c ||| b) < 256)) = true := by
  decide +kernel

theorem or_wd (c b : ℕ) (hc : c < 256) (hb : b ∈ bitsC) : wd c ||| wd b = wd (c ||| b) ∧ (c ||| b) < 256 := by
  have h := List.all_eq_true.1 or_closed c (List.mem_range.2 hc)
  have h := List.all_eq_true.1 h b hb
  rw [Bool.and_eq_true] at h
  exact ⟨eq_of_beq h.1, of_decide_eq_true h.2⟩

/-- The bisection by a test of the words. -/
def searchP (P : BitVec 32 → Bool) : BitVec 32 := bitsC.foldl (fun tb b => if P (tb ||| wd b) then tb else tb ||| wd b) (wd 0)

theorem foldl_words (P : BitVec 32 → Bool) (Q : ℕ → Bool) (h : ∀ c : ℕ, c < 256 → P (wd c) = Q c)
    (l : List ℕ) (hl : ∀ b ∈ l, b ∈ bitsC) : ∀ c : ℕ, c < 256 →
    l.foldl (fun tb b => if P (tb ||| wd b) then tb else tb ||| wd b) (wd c)
      = wd (l.foldl (fun c b => if Q (c ||| b) then c else c ||| b) c) := by
  induction l with
  | nil => intro c _; rfl
  | cons b l ih =>
    intro c hc
    have ih := ih fun b hb => hl b (List.mem_cons_of_mem _ hb)
    obtain ⟨e, hlt⟩ := or_wd c b hc (hl b List.mem_cons_self)
    simp only [List.foldl_cons]
    rw [e, h _ hlt]
    by_cases hq : Q (c ||| b) = true
    · rw [if_pos hq, if_pos hq]; exact ih c hc
    · rw [if_neg hq, if_neg hq]; exact ih _ hlt

theorem searchP_eq (P : BitVec 32 → Bool) (k : ℕ) (hk : k < 256)
    (h : ∀ c : ℕ, c < 256 → P (wd c) = decide (k < c)) : searchP P = wd k := by
  unfold searchP
  rw [foldl_words P _ h bitsC (fun b hb => hb) 0 (by norm_num)]
  exact congrArg wd (eq_of_beq (List.all_eq_true.1 search_field k (List.mem_range.2 hk)))

/-- The exponent field of `t`. -/
def searchS (t : EReal) : BitVec 32 := searchP fun b => decide (t < B b)

/-- The field with a zero field read as that of 1/2. -/
def expS (tb : BitVec 32) : BitVec 32 := if tb = wd 0 then wd 126 else tb

/-- The scale by its word. -/
def scaleS (t : EReal) : EReal := B (expS (searchS t) + wd 1)

/-- The reciprocal by its word. -/
def invS (t : EReal) : EReal := B (wd 253 - expS (searchS t))

theorem searchS_eq (t : ℝ) (k : ℕ) (hk : k ≤ 252) (hlo : k = 0 ∨ (2 : ℝ) ^ ((k : ℤ) - 127) ≤ t) (h0 : 0 ≤ t)
    (hhi : t < (2 : ℝ) ^ ((k : ℤ) - 126)) : searchS (t : EReal) = wd k := by
  refine searchP_eq _ k (by omega) fun c hc256 => ?_
  have hm : ∀ a b : ℤ, a ≤ b → (2 : ℝ) ^ a ≤ (2 : ℝ) ^ b := fun a b h => zpow_le_zpow_right₀ (by norm_num) h
  refine decide_eq_decide.2 ?_
  rcases Nat.eq_zero_or_pos c with hc | hc
  · rw [hc]
    rw [show wd 0 = 0#32 from rfl, B_zero]
    exact ⟨fun h => absurd h (not_lt.2 (by exact_mod_cast h0)), fun h => by omega⟩
  · by_cases hc' : c = 255
    · rw [hc', B_top]
      exact ⟨fun _ => by omega, fun _ => EReal.coe_lt_top t⟩
    · rw [B_pow c hc (by omega), EReal.coe_lt_coe_iff]
      refine ⟨fun h => ?_, fun h => ?_⟩
      · by_contra hn
        rcases hlo with h1 | h1
        · omega
        · exact absurd (lt_of_le_of_lt (hm _ _ (by omega)) (lt_of_le_of_lt h1 h)) (lt_irrefl _)
      · exact lt_of_lt_of_le hhi (hm _ _ (by omega))

theorem exp_words_all : (List.range 253).all (fun k => k == 0 || ((expS (wd k) + wd 1 == wd (k + 1)) && (wd 253 - expS (wd k) == wd (253 - k)))) = true := by
  decide +kernel

theorem exp_words (k : ℕ) (h1 : 1 ≤ k) (h2 : k ≤ 252) : expS (wd k) + wd 1 = wd (k + 1) ∧ wd 253 - expS (wd k) = wd (253 - k) := by
  have h := List.all_eq_true.1 exp_words_all k (List.mem_range.2 (by omega))
  rw [Bool.or_eq_true, Bool.and_eq_true] at h
  rcases h with h | h
  · have := eq_of_beq h; omega
  · exact ⟨eq_of_beq h.1, eq_of_beq h.2⟩

theorem exp_word0 : expS (wd 0) + wd 1 = wd 127 ∧ wd 253 - expS (wd 0) = wd 127 := by decide +kernel

theorem B_two : B 0x40000000#32 = ((2 : ℝ) : EReal) := by
  rw [show (0x40000000#32 : BitVec 32) = wd 128 from by decide +kernel, B_pow 128 (by norm_num) (by norm_num)]
  congr 1
  norm_num

theorem B_one : B 0x3F800000#32 = ((1 : ℝ) : EReal) := by
  rw [show (0x3F800000#32 : BitVec 32) = wd 127 from by decide +kernel, B_pow 127 (by norm_num) (by norm_num)]
  congr 1

theorem B_tiny : B 0x00800000#32 = (((2 : ℝ) ^ (-126 : ℤ) : ℝ) : EReal) := by
  rw [show (0x00800000#32 : BitVec 32) = wd 1 from by decide +kernel, B_pow 1 (by norm_num) (by norm_num)]
  congr 1

theorem B_mean : B 0x39000000#32 = (((2 : ℝ) ^ (-13 : ℤ) : ℝ) : EReal) := by
  rw [show (0x39000000#32 : BitVec 32) = wd 114 from by decide +kernel, B_pow 114 (by norm_num) (by norm_num)]
  congr 1

theorem B_8192 : B 0x46000000#32 = ((8192 : ℝ) : EReal) := by
  rw [show (0x46000000#32 : BitVec 32) = wd 140 from by decide +kernel, B_pow 140 (by norm_num) (by norm_num)]
  congr 1
  norm_num

/-- Below 2^126 the two spellings of the scale and of its reciprocal agree. -/
theorem scale_eq (t : ℝ) (h0 : 0 ≤ t) (h : t < (2 : ℝ) ^ (126 : ℤ)) : scaleS t = scale t ∧ invS t = inv t := by
  unfold scaleS invS scale inv
  by_cases hs : t < (2 : ℝ) ^ (-126 : ℤ)
  · rw [searchS_eq t 0 (by norm_num) (.inl rfl) h0 (by norm_num at hs ⊢; exact hs), exp_word0.1, exp_word0.2, expo, B_tiny,
      if_pos (by exact_mod_cast hs), B_two, B_pow 127 (by norm_num) (by norm_num)]
    refine ⟨?_, ?_⟩
    · show _ = Ideal.pow ((2 : ℝ) : EReal) ((0 : ℝ) : EReal)
      rw [Ideal.pow_coe_coe]; norm_num
    · rw [neg_zero]
      show _ = Ideal.pow ((2 : ℝ) : EReal) ((0 : ℝ) : EReal)
      rw [Ideal.pow_coe_coe]; norm_num
  · have hs : (2 : ℝ) ^ (-126 : ℤ) ≤ t := not_lt.1 hs
    have ht : 0 < t := lt_of_lt_of_le (by positivity) hs
    have hl2 : 0 < Real.log 2 := Real.log_pos (by norm_num)
    obtain ⟨n, hn⟩ : ∃ n : ℤ, n = ⌊Real.log t / Real.log 2⌋ := ⟨_, rfl⟩
    have hlog : ∀ a : ℤ, Real.log ((2 : ℝ) ^ a) = a * Real.log 2 := fun a => Real.log_zpow 2 a
    have hn1 : (2 : ℝ) ^ n ≤ t := by
      rw [← Real.log_le_log_iff (by positivity) ht, hlog]
      have : (n : ℝ) ≤ Real.log t / Real.log 2 := by rw [hn]; exact Int.floor_le _
      exact (le_div_iff₀ hl2).1 this
    have hn2 : t < (2 : ℝ) ^ (n + 1) := by
      rw [← Real.log_lt_log_iff ht (by positivity), hlog]
      have : Real.log t / Real.log 2 < n + 1 := by rw [hn]; exact Int.lt_floor_add_one _
      have := (div_lt_iff₀ hl2).1 this
      push_cast
      exact this
    have hlow : -126 ≤ n := by
      by_contra hc
      exact absurd (lt_of_lt_of_le hn2 (zpow_le_zpow_right₀ (by norm_num : (1 : ℝ) ≤ 2) (by omega : n + 1 ≤ -126))) (not_lt.2 hs)
    have hhigh : n ≤ 125 := by
      by_contra hc
      exact absurd (lt_of_lt_of_le h (zpow_le_zpow_right₀ (by norm_num : (1 : ℝ) ≤ 2) (by omega : (126 : ℤ) ≤ n))) (not_lt.2 hn1)
    obtain ⟨k, hk⟩ : ∃ k : ℕ, (k : ℤ) = n + 127 := ⟨(n + 127).toNat, by omega⟩
    have hk1 : 1 ≤ k := by omega
    have hk2 : k ≤ 252 := by omega
    obtain ⟨w1, w2⟩ := exp_words k hk1 hk2
    rw [searchS_eq t k hk2 (.inr (by rw [hk]; convert hn1 using 2; ring)) h0 (by rw [hk]; convert hn2 using 2; ring)]
    have hexp : expo (t : EReal) = (((n : ℝ) + 1 : ℝ) : EReal) := by
      rw [expo, B_tiny, if_neg (by rw [EReal.coe_lt_coe_iff]; exact not_lt.2 hs), B_two, B_one, Ideal.log_coe, Ideal.log_coe, if_neg (not_le.2 ht),
        if_neg (by norm_num), Ideal.div_coe hl2.ne', ← EReal.coe_mul, Ideal.liftRound_coe, mul_one_div, ← hn, EReal.coe_add]
    rw [hexp, w1, w2, B_two, B_pow (k + 1) (by omega) (by omega), B_pow (253 - k) (by omega) (by omega)]
    refine ⟨?_, ?_⟩
    · rw [Ideal.pow_coe_coe]
      congr 1
      have : ((n : ℝ) + 1) = (((k + 1 : ℕ) : ℤ) - 127 : ℤ) := by
        have : ((k : ℤ) : ℝ) = ((n + 127 : ℤ) : ℝ) := by rw [hk]
        push_cast at this ⊢; linarith
      rw [this]
      exact (Real.rpow_intCast 2 _).symm
    · rw [← EReal.coe_neg, Ideal.pow_coe_coe]
      congr 1
      have : -((n : ℝ) + 1) = (((253 - k : ℕ) : ℤ) - 127 : ℤ) := by
        have h3 : (((253 - k : ℕ) : ℤ) - 127 : ℤ) = -(n + 1) := by omega
        rw [h3]; push_cast; ring
      rw [this]
      exact (Real.rpow_intCast 2 _).symm

/-! ## The bound that keeps the scale a finite power of two -/

theorem B_wmax : B 0x7F7F0000#32 = ((338953138925153547590470800371487866880 : ℝ) : EReal) := by
  rw [B_def]
  unfold Ideal.ieee
  rw [show ((0x7F7F0000#32 : BitVec 32).extractLsb' (8 + 23) 1 == 1#1) = false from by decide +kernel,
    show ((0x7F7F0000#32 : BitVec 32).extractLsb' 23 8).toNat = 254 from by decide +kernel,
    show ((0x7F7F0000#32 : BitVec 32).extractLsb' 0 23).toNat = 8323072 from by decide +kernel]
  norm_num

theorem B_c448 : B 0x3B124925#32 = ((9586981 / 4294967296 : ℝ) : EReal) := by
  rw [B_def]
  unfold Ideal.ieee
  rw [show ((0x3B124925#32 : BitVec 32).extractLsb' (8 + 23) 1 == 1#1) = false from by decide +kernel,
    show ((0x3B124925#32 : BitVec 32).extractLsb' 23 8).toNat = 118 from by decide +kernel,
    show ((0x3B124925#32 : BitVec 32).extractLsb' 0 23).toNat = 1198373 from by decide +kernel]
  norm_num

theorem B_eps' : B 0x358637BD#32 = ((8796093 / 8796093022208 : ℝ) : EReal) := by
  rw [B_def]
  unfold Ideal.ieee
  rw [show ((0x358637BD#32 : BitVec 32).extractLsb' (8 + 23) 1 == 1#1) = false from by decide +kernel,
    show ((0x358637BD#32 : BitVec 32).extractLsb' 23 8).toNat = 107 from by decide +kernel,
    show ((0x358637BD#32 : BitVec 32).extractLsb' 0 23).toNat = 407485 from by decide +kernel]
  norm_num

theorem B_eps : ∃ e : ℝ, 0 < e ∧ B 0x358637BD#32 = (e : EReal) := ⟨_, by norm_num, B_eps'⟩

theorem coe_max (a b : ℝ) : ((max a b : ℝ) : EReal) = max (a : EReal) (b : EReal) := EReal.coe_strictMono.monotone.map_max

theorem coe_sum {ι : Type} (s : Finset ι) (f : ι → ℝ) : ((∑ k ∈ s, f k : ℝ) : EReal) = ∑ k ∈ s, (f k : EReal) := by
  classical
  induction s using Finset.induction with
  | empty => simp
  | insert a s ha ih => rw [Finset.sum_insert ha, Finset.sum_insert ha, EReal.coe_add, ih]

theorem B_ninf : B 0xFF800000#32 = ⊥ := by
  rw [B_def]
  unfold Ideal.ieee
  rw [show ((0xFF800000#32 : BitVec 32).extractLsb' (8 + 23) 1 == 1#1) = true from by decide +kernel,
    show ((0xFF800000#32 : BitVec 32).extractLsb' 23 8).toNat = 255 from by decide +kernel,
    show ((0xFF800000#32 : BitVec 32).extractLsb' 0 23).toNat = 0 from by decide +kernel]
  norm_num

theorem mul_self_nonneg (x : EReal) : 0 ≤ x * x := by
  induction x using EReal.rec with
  | bot => simp
  | coe r => rw [← EReal.coe_mul]; exact_mod_cast _root_.mul_self_nonneg r
  | top => simp

/-- A normalised value is a real number of magnitude at most 91 times the weights' bound. -/
theorem nrm_bound (x w : Fin 8192 → EReal) (hw : ∀ j, max (w j) (-(w j)) ≤ B 0x7F7F0000#32) (j : Fin 8192) :
    ∃ v : ℝ, nrm x w j = (v : EReal) ∧ |v| ≤ 91 * 338953138925153547590470800371487866880 := by
  obtain ⟨W, hW⟩ : ∃ W : ℝ, w j = (W : EReal) ∧ |W| ≤ 338953138925153547590470800371487866880 := by
    have h := hw j
    rw [B_wmax] at h
    induction hj : w j using EReal.rec with
    | bot => rw [hj] at h; simp at h
    | top => rw [hj] at h; simp at h
    | coe r =>
      refine ⟨r, rfl, ?_⟩
      rw [hj, ← EReal.coe_neg, ← coe_max, EReal.coe_le_coe_iff] at h
      exact abs_le'.2 ⟨(max_le_iff.1 h).1, (max_le_iff.1 h).2⟩
  obtain ⟨e, he, hE⟩ := B_eps
  by_cases hf : ∀ k, ∃ r : ℝ, x k = (r : EReal)
  · choose y hy using hf
    have hs : (∑ k, x k * x k) = ((∑ k, y k * y k : ℝ) : EReal) := by
      rw [coe_sum]
      exact Finset.sum_congr rfl fun k _ => by rw [hy k, EReal.coe_mul]
    obtain ⟨S, hS⟩ : ∃ S : ℝ, S = ∑ k, y k * y k := ⟨_, rfl⟩
    have hS0 : 0 ≤ S := by rw [hS]; exact Finset.sum_nonneg fun k _ => _root_.mul_self_nonneg _
    have hjS : y j * y j ≤ S := by
      rw [hS]; exact Finset.single_le_sum (f := fun k => y k * y k) (fun k _ => _root_.mul_self_nonneg _) (Finset.mem_univ j)
    obtain ⟨M, hM⟩ : ∃ M : ℝ, M = S * (2 : ℝ) ^ (-13 : ℤ) + e := ⟨_, rfl⟩
    have hM0 : 0 < M := by rw [hM]; exact add_pos_of_nonneg_of_pos (mul_nonneg hS0 (by norm_num)) he
    have hSM : S ≤ 8192 * M := by rw [hM]; norm_num; linarith
    have hr : rinv x = (((Real.sqrt M)⁻¹ : ℝ) : EReal) := by
      unfold rinv
      rw [hs, B_mean, hE, ← hS, ← EReal.coe_mul, ← EReal.coe_add, ← hM, Ideal.rsqrt_coe, if_neg (not_lt.2 hM0.le), if_neg hM0.ne']
    refine ⟨y j * (Real.sqrt M)⁻¹ * W, by unfold nrm; rw [hr, hW.1, hy j, EReal.coe_mul, EReal.coe_mul], ?_⟩
    rw [abs_mul]
    have h1 : |y j * (Real.sqrt M)⁻¹| ≤ 91 := by
      have hq : 0 < Real.sqrt M := Real.sqrt_pos.2 hM0
      refine abs_le_of_sq_le_sq ?_ (by norm_num)
      rw [mul_pow, inv_pow, Real.sq_sqrt hM0.le, mul_inv_le_iff₀ hM0]
      nlinarith
    exact mul_le_mul h1 hW.2 (abs_nonneg _) (by norm_num)
  · have hr : rinv x = 0 := by
      push Not at hf
      obtain ⟨k, hk⟩ := hf
      have hkk : x k * x k = ⊤ := by
        induction hx : x k using EReal.rec with
        | bot => simp
        | top => simp
        | coe r => exact absurd hx (hk r)
      have hs : (∑ k, x k * x k) = ⊤ := by
        refine top_le_iff.1 ?_
        rw [← hkk]
        exact Finset.single_le_sum (f := fun k => x k * x k) (fun k _ => mul_self_nonneg _) (Finset.mem_univ k)
      unfold rinv
      rw [hs, B_mean, hE, EReal.top_mul_coe_of_pos (by positivity), EReal.top_add_coe, Ideal.rsqrt_top]
    refine ⟨0, by unfold nrm; rw [hr]; simp, by norm_num⟩

/-- A group's greatest magnitude over 448 is a real number below 2^126. -/
theorem tmax_bound (x w : Fin 8192 → EReal) (hw : ∀ j, max (w j) (-(w j)) ≤ B 0x7F7F0000#32) (g : Fin 64) :
    ∃ t : ℝ, tmax x w g = (t : EReal) ∧ 0 ≤ t ∧ t < (2 : ℝ) ^ (126 : ℤ) := by
  have hlo : 0 ≤ amax x w g := by
    unfold amax
    refine (Finset.le_fold_max _).2 (.inr ⟨0, Finset.mem_univ _, ?_⟩)
    obtain ⟨v, hv, _⟩ := nrm_bound x w hw (col g 0)
    rw [hv, ← EReal.coe_neg, ← coe_max]
    exact_mod_cast abs_nonneg v
  have hhi : amax x w g ≤ ((91 * 338953138925153547590470800371487866880 : ℝ) : EReal) := by
    unfold amax
    refine (Finset.fold_max_le _).2 ⟨by rw [B_ninf]; exact bot_le, fun l _ => ?_⟩
    obtain ⟨v, hv, hb⟩ := nrm_bound x w hw (col g l)
    rw [hv, ← EReal.coe_neg, ← coe_max]
    exact_mod_cast hb
  unfold tmax
  induction ha : amax x w g using EReal.rec with
  | bot => rw [ha] at hlo; simp at hlo
  | top => rw [ha] at hhi; exact absurd (top_le_iff.1 hhi) (EReal.coe_ne_top _)
  | coe a =>
    rw [ha] at hlo hhi
    have h0 : 0 ≤ a := by exact_mod_cast hlo
    have h1 : a ≤ 91 * 338953138925153547590470800371487866880 := by exact_mod_cast hhi
    refine ⟨a * (9586981 / 4294967296), by rw [B_c448, EReal.coe_mul], by positivity, ?_⟩
    norm_num
    linarith

/-- The two spellings of a group's scale and of its reciprocal agree. -/
theorem scale_tmax (x w : Fin 8192 → EReal) (hw : ∀ j, max (w j) (-(w j)) ≤ B 0x7F7F0000#32) (g : Fin 64) :
    scaleS (tmax x w g) = scale (tmax x w g) ∧ invS (tmax x w g) = inv (tmax x w g) := by
  obtain ⟨t, ht, h0, h1⟩ := tmax_bound x w hw g
  rw [ht]
  exact scale_eq t h0 h1

/-- A head rotated: entry `d` times its cosine, plus its partner in the pair times the sine, which is negated at an even `d`. -/
def rope (t ang : Fin 64 → EReal) (d : Fin 64) : EReal :=
  t d * Ideal.cos (ang d) + (if d.val % 2 = 0 then t ⟨(d.val + 1) % 64, by omega⟩ else t ⟨(d.val + 63) % 64, by omega⟩)
    * (if d.val % 2 = 0 then -(Ideal.sin (ang d)) else Ideal.sin (ang d))

end Cert.Spec
-- ==== Proof.GroupVal.lean ====
module

public import proofs.«01_k».proof.Proof.Group
public import proofs.«01_k».proof.Proof.Spec
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.Pipeline.ValueKit.Acc

@[expose] public section
noncomputable section
namespace Cert.KernelIdeal.Hand
open Cert.KernelIdeal Cert.KernelIdeal.Gen Idealize.ShloMosaic Idealize.ShloMosaic.TcCoe Idealize.SL.Sem
open Idealize.ShloMosaic.ValueIdx Cert.Spec
open scoped BigOperators

/-! # A trip's values over the extended reals

Row `i` of a trip's 32 rows, lane by lane: what the trip computes is the row's quantisation. -/

/-- A fold of additions of arrays, at an index. -/
theorem foldl_addf_apply {ι : Type} {s : Shape} (f : ι → FVec Ideal s .f32) (l : List ι) (a : FVec Ideal s .f32) (i : s.Idx) :
    (l.foldl (fun acc g => addf acc (f g)) a) i = (a i : EReal) + (l.map fun g => (f g i : EReal)).sum := by
  induction l generalizing a with
  | nil => simp
  | cons g l ih =>
    rw [List.foldl_cons, ih, List.map_cons, List.sum_cons, addf_apply, add_assoc]

theorem groups_eq : groups = List.finRange 64 := by decide +kernel

theorem fieldBits_eq : Hand.fieldBits = bitsC.map wd := by decide +kernel

section
variable (x : Fin 64 → Vec Ideal S32x128 .bf16) (w : Fin 64 → Vec Ideal S1x128 .f32)

/-- Lane of a column. -/
def lane (j : Fin 8192) : Fin 128 := ⟨j.val % 128, by omega⟩

/-- Row `i` of the trip. -/
def xr (i : Fin 32) (j : Fin 8192) : EReal := x (grp j) (ix2 i (lane j))

/-- The trip's weights. -/
def wr (j : Fin 8192) : EReal := w (grp j) (ix2 (0 : Fin 1) (lane j))

theorem lane_col (g : Fin 64) (l : Fin 128) : lane (col g l) = l := Fin.ext (by show (128 * g.val + l.val) % 128 = l.val; omega)

theorem col_grp_lane (j : Fin 8192) : col (grp j) (lane j) = j := Fin.ext (by show 128 * (j.val / 128) + j.val % 128 = j.val; omega)

theorem xr_col (i : Fin 32) (g : Fin 64) (l : Fin 128) : xr x i (col g l) = x g (ix2 i l) := by rw [xr, grp_col, lane_col]

theorem wr_col (g : Fin 64) (l : Fin 128) : wr w (col g l) = w g (ix2 (0 : Fin 1) l) := by rw [wr, grp_col, lane_col]

theorem xeC_apply (g : Fin 64) (i : S32x128.Idx) : xeC x g i = (x g i : EReal) := by
  unfold xeC
  rw [shapeCast_self, extf_apply]

theorem accC_apply (i : Fin 32) (l : Fin 128) : accC x (ix2 i l) = ∑ g : Fin 64, xr x i (col g l) * xr x i (col g l) := by
  unfold accC
  rw [foldl_addf_apply, groups_eq, ← List.ofFn_eq_map, List.sum_ofFn, broadcast_apply]
  rw [show (Scalar.ofBits .f32 0x00000000#32 : Ideal .f32) = 0 from Ideal.ofBits_zero_f32, zero_add]
  exact Finset.sum_congr rfl fun g _ => by rw [mulf_apply, xeC_apply, xr_col]

/-- A column broadcast over the lanes. -/
theorem bcol_apply {α : Type} (v : S32x1.Idx → α) (i : Fin 32) (l : Fin 128) :
    broadcastTo S32x128 v broadcasts_S32x1_S32x128 (ix2 i l) = v (ix2 i (0 : Fin 1)) :=
  broadcastTo_apply v _ _ _ fun a => match a with | ⟨0, _⟩ => rfl | ⟨1, _⟩ => rfl

theorem redAdd_apply (v : FVec Ideal S32x128 .f32) (i : Fin 32) :
    multiReduction .add [1] S32 v 0x00000000#32 reduces_S32x128_S32 (.inl rfl) rfl (ix1 i) = (∑ k : Fin 128, v (ix2 i k) : EReal) :=
  (Ideal.multiReduction_add_single v _ reduces_S32x128_S32 (.inl rfl) rfl (ix1 i)).trans
    (Finset.sum_congr rfl fun k _ => congrArg v (funext fun a => match a with | ⟨0, _⟩ => rfl | ⟨1, _⟩ => rfl))

theorem redMax_apply (v : FVec Ideal S32x128 .f32) (i : Fin 32) :
    multiReduction .maximumf [1] S32 v 0xFF800000#32 reduces_S32x128_S32 (.inl rfl) rfl (ix1 i)
      = ((Finset.univ : Finset (Fin 128)).fold max (B 0xFF800000#32) fun k => v (ix2 i k) : EReal) :=
  (Ideal.multiReduction_maximumf_single v _ reduces_S32x128_S32 (.inl rfl) rfl (ix1 i)).trans
    (congrArg (fun f => (Finset.univ : Finset (Fin 128)).fold max (B 0xFF800000#32) f)
      (funext fun k => congrArg v (funext fun a => match a with | ⟨0, _⟩ => rfl | ⟨1, _⟩ => rfl)))

theorem rC_apply (i : Fin 32) : rC x (ix2 i (0 : Fin 1)) = rinv (xr x i) := by
  unfold rC rinv
  show Ideal.rsqrt (shapeCast S32x1 (multiReduction .add [1] S32 (accC x) 0x00000000#32 reduces_S32x128_S32 (.inl rfl) rfl)
    shapeCasts_S32_S32x1 (ix2 i (0 : Fin 1)) * B 0x39000000#32 + B 0x358637BD#32) = _
  refine congrArg (fun s : EReal => Ideal.rsqrt (s * B 0x39000000#32 + B 0x358637BD#32)) ?_
  refine (shapeCast_a_a1_apply _ _ _ _).trans ((redAdd_apply _ i).trans ?_)
  refine ((Finset.sum_congr rfl fun k _ => accC_apply x i k).trans Finset.sum_comm).trans ?_
  exact Fin.sum_mul_add_congr (S := 64) (n := 128) fun s k hl => by
    rw [show col s k = ⟨s.val * 128 + k.val, hl⟩ from Fin.ext (congrArg (· + k.val) (Nat.mul_comm 128 s.val))]

theorem hC_apply (g : Fin 64) (i : Fin 32) (l : Fin 128) : hC x w g (ix2 i l) = nrm (xr x i) (wr w) (col g l) := by
  unfold hC nrm
  rw [mulf_apply, mulf_apply, xeC_apply, bcol_apply, rC_apply, broadcastTo_1b_ab_apply, shapeCast_self, xr_col, wr_col]

theorem tC_apply (g : Fin 64) (i : Fin 32) : tC (hC x w g) (ix2 i (0 : Fin 1)) = tmax (xr x i) (wr w) g := by
  unfold tC tmax amax
  rw [mulf_apply]
  congr 1
  refine (shapeCast_a_a1_apply _ _ _ _).trans ((redMax_apply _ i).trans ?_)
  congr 1
  funext l
  show max (hC x w g (ix2 i l)) (-(hC x w g (ix2 i l))) = _
  rw [hC_apply]

theorem searchC_apply (t : FVec Ideal S32x1 .f32) (i : S32x1.Idx) : searchC t i = searchS (t i) := by
  unfold searchC searchS searchP
  rw [fieldBits_eq, List.foldl_map]
  have h : ∀ (l : List ℕ) (a : IVec S32x1 32), (l.foldl (fun tb b => select (cmpf .olt t (bitcastToFloat .f32 (ori tb (broadcast S32x1 (wd b))))) tb (ori tb (broadcast S32x1 (wd b)))) a) i
      = l.foldl (fun tb b => if decide (t i < B (tb ||| wd b)) then tb else tb ||| wd b) (a i) := by
    intro l
    induction l with
    | nil => intro a; rfl
    | cons b l ih =>
      intro a
      rw [List.foldl_cons, List.foldl_cons, ih]
      congr 1
      show (if BitVec.ofBool (decide (t i < B (a i ||| wd b))) = 1 then a i else a i ||| wd b) = _
      by_cases hq : t i < B (a i ||| wd b)
      · rw [decide_eq_true hq]; rfl
      · rw [decide_eq_false hq]; rfl
  exact h bitsC _

theorem tbC_apply (g : Fin 64) (i : Fin 32) : tbC x w g (ix2 i (0 : Fin 1)) = searchS (tmax (xr x i) (wr w) g) := by
  unfold tbC
  rw [searchC_apply, tC_apply]

theorem expC_apply (tb : IVec S32x1 32) (i : S32x1.Idx) : expC tb i = expS (tb i) := by
  show (if BitVec.ofBool (tb i == 0#32) = 1 then 1056964608#32 else tb i) = if tb i = wd 0 then wd 126 else tb i
  by_cases h : tb i = 0#32
  · rw [if_pos (show tb i = wd 0 from h), h]; rfl
  · rw [if_neg (show ¬ tb i = wd 0 from h), beq_eq_false_iff_ne.2 h]; rfl

theorem scaleC_apply (g : Fin 64) (i : Fin 32) : scaleC (F := Ideal) (tbC x w g) (ix2 i (0 : Fin 1)) = scaleS (tmax (xr x i) (wr w) g) := by
  show B (expC (tbC x w g) (ix2 i (0 : Fin 1)) + 8388608#32) = _
  rw [expC_apply, tbC_apply]; rfl

theorem invC_apply (g : Fin 64) (i : Fin 32) : invC (F := Ideal) (tbC x w g) (ix2 i (0 : Fin 1)) = invS (tmax (xr x i) (wr w) g) := by
  show B (2122317824#32 - expC (tbC x w g) (ix2 i (0 : Fin 1))) = _
  rw [expC_apply, tbC_apply]; rfl

section
variable (hw : ∀ j, max (wr w j) (-(wr w j)) ≤ B 0x7F7F0000#32)
include hw

theorem codesC_apply (g : Fin 64) (i : Fin 32) (l : Fin 128) : codesC x w g (ix2 i l) = code (xr x i) (wr w) (col g l) := by
  show min (B 0x43E00000#32) (max (B 0xC3E00000#32) (hC x w g (ix2 i l) * broadcastTo S32x128 (invC (F := Ideal) (tbC x w g)) broadcasts_S32x1_S32x128 (ix2 i l))) = _
  rw [bcol_apply, invC_apply, hC_apply, (scale_tmax _ _ hw g).2, code, grp_col, min_comm, max_comm]

theorem xaC_apply (g : Fin 64) (i : Fin 32) (l : Fin 128) : xaC x w g (ix2 i l) = deq (xr x i) (wr w) (col g l) := by
  unfold xaC
  rw [shapeCast_self]
  rw [mulf_apply, extf_apply, truncf_apply, bcol_apply, shapeCast_self, scaleC_apply, codesC_apply x w hw, (scale_tmax _ _ hw g).1, deq, grp_col]

/-- A fold of selections over groups, at a lane of one of them. -/
theorem foldl_select_apply (s : Fin 64 → FVec Ideal S32x128 .f32) (i : Fin 32) (h : Fin 64) (hl : h.val < 128) (l : List (Fin 64)) (a : FVec Ideal S32x128 .f32) :
    (l.foldl (fun p g => select (cmpi .eq (iota .tc S32x128 32 [1] iota_S32x128_d1_w32) (broadcast S32x128 (BitVec.ofNat 32 g.val))) (s g) p) a) (ix2 i (⟨h.val, hl⟩ : Fin 128))
      = if h ∈ l then s h (ix2 i (⟨h.val, hl⟩ : Fin 128)) else a (ix2 i (⟨h.val, hl⟩ : Fin 128)) := by
  induction l generalizing a with
  | nil => rfl
  | cons g l ih =>
    rw [List.foldl_cons, ih]
    by_cases hm : h ∈ l
    · rw [if_pos hm, if_pos (List.mem_cons_of_mem _ hm)]
    · rw [if_neg hm, select_apply]
      show Scalar.select (BitVec.ofBool (iota .tc S32x128 32 [1] iota_S32x128_d1_w32 (ix2 i (⟨h.val, hl⟩ : Fin 128)) == BitVec.ofNat 32 g.val)) _ _ = _
      rw [iota_single_apply]
      show Scalar.select (BitVec.ofBool (BitVec.ofNat 32 h.val == BitVec.ofNat 32 g.val)) _ _ = _
      by_cases hg : h = g
      · subst hg
        rw [if_pos List.mem_cons_self, beq_self_eq_true]; rfl
      · rw [if_neg (fun hc => (List.mem_cons.1 hc).elim hg hm), beq_eq_false_iff_ne.2 fun e => hg (Fin.ext ?_)]
        · rfl
        · have := congrArg BitVec.toNat e
          rw [BitVec.toNat_ofNat, BitVec.toNat_ofNat, Nat.mod_eq_of_lt (by omega), Nat.mod_eq_of_lt (by omega)] at this
          exact this

theorem packedC_apply (g : Fin 64) (i : Fin 32) : packedC x w (ix2 i (⟨g.val, by omega⟩ : Fin 128)) = scale (tmax (xr x i) (wr w) g) := by
  unfold packedC
  rw [shapeCast_self, foldl_select_apply _ hw, if_pos (by rw [groups_eq]; exact List.mem_finRange g), bcol_apply, shapeCast_self, scaleC_apply, (scale_tmax _ _ hw g).1]
end
end

end Cert.KernelIdeal.Hand
-- ==== Proof.Weights.lean ====
module

public import proofs.«01_k».proof.Proof.Group

@[expose] public section
noncomputable section
namespace Cert.KernelIdeal.Hand
open Cert.KernelIdeal Cert.KernelIdeal.Gen Idealize.ShloMosaic Idealize.ShloMosaic.TcCoe Idealize.SL.Sem
variable {F : FTy → Type} [FloatOps F]

/-! # What one trip of the weights' loop writes

A trip copies 128 rows of the weights and stores 18 blocks of 128 columns, transposed and scaled. -/

/-- The blocks in the order of a list of stores, last first. -/
def blocksRev : List (Fin 18) := [17, 16, 15, 14, 13, 12, 11, 10, 9, 8, 7, 6, 5, 4, 3, 2, 1, 0]

/-- A block of the weights, transposed and times its scale. -/
def wtC (s : Elt F .f32) (v : Vec F S128x128 .fp8e4m3) : FVec F S128x128 .bf16 :=
  shapeCast S128x128 (mulf (transpose S128x128 [1, 0] (extf .bf16 v bitsLt_fp8e4m3_bf16) transposes_S128x128_p1_0_S128x128)
    (truncf .bf16 (broadcast S128x128 s) bitsLt_bf16_f32)) shapeCasts_S128x128_S128x128

/-- Where trip `k` puts block `n`. -/
def offT (k : Fin k0_t1_loop.trips) (n : Fin 18) : Fin 2 → Nat :=
  ![128 * n.val, (Scalar.indexCast (Scalar.muli (Scf.iv 0#32 1#32 k) 128#32) : BitVec 32).toNat]

/-- Where it finds the scale of block `n`. -/
def offS (k : Fin k0_t1_loop.trips) (n : Fin 18) : Fin 2 → Nat :=
  ![n.val, (Scalar.indexCast (Scf.iv 0#32 1#32 k) : BitVec 32).toNat]

theorem offT_inb : ∀ (k : Fin k0_t1_loop.trips) (n : Fin 18), ∀ a, offT k n a + S128x128.size a ≤ S2304x8192.size a := by decide +kernel

theorem offS_inb : ∀ (k : Fin k0_t1_loop.trips) (n : Fin 18), ∀ a, offS k n a + S1x1.size a ≤ S18x64.size a := by decide +kernel

theorem offV_inb : ∀ (n : Fin 18), ∀ a, (![0, 128 * n.val] : Fin 2 → Nat) a + S128x128.size a ≤ S128x2304.size a := by decide +kernel

/-- The trip's load of the scale of block `n`. -/
def sL (arg2 : Memref sig .tc .smem S18x64 .f32) (X_arg2 : BufTy.Contents (Elt F) arg2.view.ty) (k : Fin k0_t1_loop.trips) (n : Fin 18) : Elt F .f32 :=
  View.readAt (Elt F) arg2.view (Rect.unit (s := S18x64) (offS k n) S1x1.size (offS_inb k n)).toLoadRect X_arg2 (Shape.Idx.first (by show 0 < S1x1.numel; decide))

/-- Its load of block `n` of the weights, out of the rows copied. -/
def vL (arg6 : Memref sig .tc .hbm S8192x2304 .fp8e4m3) (arg14 : Memref sig .tc .vmem S128x2304 .fp8e4m3)
    (i : grid0.Coords) (k0_h1 : k0_cond1 i = 1#1) (X_arg6 : BufTy.Contents (Elt F) arg6.view.ty) (k : Fin k0_t1_loop.trips) (n : Fin 18) :
    Vec F S128x128 .fp8e4m3 :=
  arg14.view.readCov [⟨Rect.whole S128x2304, trip_k0_t1.sl.dma0 i arg6 k0_h1 X_arg6 k⟩]
    (Rect.unit (s := S128x2304) ![0, 128 * n.val] S128x128.size (offV_inb n)).toLoadRect

theorem trip_wt (𝒱 : Variants) (c : Dev nD) (bd : Option 𝒱.V) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg6 : Memref sig .tc .hbm S8192x2304 .fp8e4m3) (harg6 : arg6.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (arg16 : DmaSems sig S_)
    (k0_h1 : k0_cond1 i = 1#1) (X_arg2 : BufTy.Contents (Elt F) arg2.view.ty) (X_arg6 : BufTy.Contents (Elt F) arg6.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 X_arg2 X_arg6 k)
      = blocksRev.map fun n => ⟨Rect.unit (s := S2304x8192) (offT k n) S128x128.size (offT_inb k n), wtC (sL arg2 X_arg2 k n) (vL arg6 arg14 i k0_h1 X_arg6 k n)⟩ := by
  unfold tripL_k0_t1 trip_k0_t1
  dsimp only
  sl_kernel_rfl

end Cert.KernelIdeal.Hand
-- ==== Proof.Loop.lean ====
module

public import proofs.«01_k».proof.Proof.GroupVal
public import proofs.«01_k».proof.Proof.Weights
public import Idealize.ShloMosaic.Lib.WholeRead
public import Idealize.ShloMosaic.Lib.Pipeline.FrameBody

@[expose] public section
noncomputable section
namespace Cert.KernelIdeal.Hand
open Cert.KernelIdeal Cert.KernelIdeal.Gen Idealize.ShloMosaic Idealize.ShloMosaic.TcCoe Idealize.SL.Sem
open Idealize.ShloMosaic.ValueIdx Cert.Spec
open scoped BigOperators

/-! # What the two loops leave behind

Every trip writes its own rows, or its own columns, so an entry of a buffer after the loop is the entry that its
trip wrote. -/

/-- Membership in a list built by a loop that puts each trip's pieces in front. -/
theorem mem_loop {α : Type} {N : ℕ} (P : ℕ → List α) (T : Fin N → List α) (h0 : P 0 = []) (hs : ∀ k : Fin N, P (k.val + 1) = T k ++ P k.val) (p : α) :
    p ∈ P N ↔ ∃ k, p ∈ T k := by
  have h : ∀ n ≤ N, (p ∈ P n ↔ ∃ k : Fin N, k.val < n ∧ p ∈ T k) := by
    intro n
    induction n with
    | zero => intro _; rw [h0]; exact ⟨fun h => absurd h List.not_mem_nil, fun ⟨k, hk, _⟩ => absurd hk (Nat.not_lt_zero _)⟩
    | succ n ih =>
      intro hn
      rw [hs ⟨n, hn⟩, List.mem_append, ih (Nat.le_of_succ_le hn)]
      constructor
      · rintro (h | ⟨k, hk, h⟩)
        · exact ⟨⟨n, hn⟩, Nat.lt_succ_self n, h⟩
        · exact ⟨k, Nat.lt_succ_of_lt hk, h⟩
      · rintro ⟨k, hk, h⟩
        rcases Nat.lt_succ_iff_lt_or_eq.1 hk with hk | hk
        · exact .inr ⟨k, hk, h⟩
        · exact .inl ((Fin.ext hk : k = ⟨n, hn⟩) ▸ h)
  rw [h N le_rfl]
  exact ⟨fun ⟨k, _, h⟩ => ⟨k, h⟩, fun ⟨k, h⟩ => ⟨k, k.isLt, h⟩⟩

/-- A box of a matrix, entry by entry. -/
theorem unit_ix2 {n0 n1 m0 m1 : ℕ} (off : Fin 2 → ℕ) (inb) (i : Fin m0) (l : Fin m1) (a : Fin n0) (b : Fin n1)
    (h0 : off 0 + i.val = a.val) (h1 : off 1 + l.val = b.val) :
    (Rect.unit (s := ⟨2, ![n0, n1]⟩) off ![m0, m1] inb).emb (ix2 i l) = ix2 a b := by
  funext c
  apply Fin.ext
  match c with
  | ⟨0, _⟩ => show off 0 + 1 * i.val = a.val; omega
  | ⟨1, _⟩ => show off 1 + 1 * l.val = b.val; omega

theorem mem_unit_ix2 {n0 n1 m0 m1 : ℕ} (off : Fin 2 → ℕ) (inb) (a : Fin n0) (b : Fin n1)
    (h0 : off 0 ≤ a.val ∧ a.val < off 0 + m0) (h1 : off 1 ≤ b.val ∧ b.val < off 1 + m1) :
    (ix2 a b : (⟨2, ![n0, n1]⟩ : Shape).Idx) ∈ (Rect.unit (s := ⟨2, ![n0, n1]⟩) off ![m0, m1] inb).set :=
  Rect.mem_set_unit.2 fun c => match c with | ⟨0, _⟩ => h0 | ⟨1, _⟩ => h1

theorem ix2_unit (x : (⟨2, ![1, 1]⟩ : Shape).Idx) : x = ix2 (0 : Fin 1) (0 : Fin 1) :=
  (eq_ix2 x).trans (congrArg₂ ix2 (Subsingleton.elim (α := Fin 1) _ _) (Subsingleton.elim (α := Fin 1) _ _))

theorem mem_groupsRev (g : Fin 64) : g ∈ groupsRev := by revert g; decide +kernel

theorem mem_blocksRev (n : Fin 18) : n ∈ blocksRev := by revert n; decide +kernel

theorem trips2 : k0_t2_loop.trips = 8 := by decide +kernel

theorem trips1 : k0_t1_loop.trips = 64 := by decide +kernel

theorem offU_eq : ∀ (k : Fin k0_t2_loop.trips) (g : Fin 64), offU k g = ![32 * k.val, 128 * g.val] := by decide +kernel

theorem offT_eq : ∀ (k : Fin k0_t1_loop.trips) (n : Fin 18), offT k n = ![128 * n.val, 128 * k.val] := by decide +kernel

theorem offS_eq : ∀ (k : Fin k0_t1_loop.trips) (n : Fin 18), offS k n = ![n.val, k.val] := by decide +kernel

/-- Row `i` of the rows of trip `k`. -/
def rowOf (k : Fin k0_t2_loop.trips) (i : Fin 32) : Fin 256 := ⟨32 * k.val + i.val, by have := lt_of_lt_of_eq k.isLt trips2; omega⟩

/-- The trip that handles a row, and the row within it. -/
theorem exists_rowOf (r : Fin 256) : ∃ k i, rowOf k i = r :=
  ⟨⟨r.val / 32, by rw [trips2]; omega⟩, ⟨r.val % 32, by omega⟩, Fin.ext (by show 32 * (r.val / 32) + r.val % 32 = r.val; omega)⟩

theorem exists_col (j : Fin 8192) : ∃ g l, col g l = j := ⟨grp j, lane j, col_grp_lane j⟩

section
variable (arg3 : Memref sig .tc .vmem S256x8192 .bf16) (harg3 : arg3.IsWhole) (arg4 : Memref sig .tc .vmem S1x8192 .f32) (harg4 : arg4.IsWhole)
  (x2 : S256x8192.Idx → Elt Ideal .bf16) (x3 : S1x8192.Idx → Elt Ideal .f32)

/-- A row of the block. -/
def rowX (r : Fin 256) (j : Fin 8192) : EReal := x2 (ix2 r j)

/-- The norm's weights. -/
def rowW (j : Fin 8192) : EReal := x3 (ix2 (0 : Fin 1) j)

theorem xr_xL (k : Fin k0_t2_loop.trips) (i : Fin 32) : xr (xL arg3 (harg3.unread x2) k) i = rowX x2 (rowOf k i) := by
  funext j
  show View.readAt (Elt Ideal) arg3.view _ (harg3.unread x2) _ = _
  rw [Memref.IsWhole.readAt_unread]
  refine congrArg x2 (unit_ix2 _ _ _ _ _ _ ?_ ?_)
  · rw [offU_eq]; rfl
  · rw [offU_eq]; exact congrArg Fin.val (col_grp_lane j)

theorem wr_wL : wr (wL arg4 (harg4.unread x3)) = rowW x3 := by
  funext j
  show View.readAt (Elt Ideal) arg4.view _ (harg4.unread x3) _ = _
  rw [Memref.IsWhole.readAt_unread]
  exact congrArg x3 (unit_ix2 _ _ _ _ _ _ rfl (congrArg Fin.val (col_grp_lane j)))

/-- A buffer whose trips write boxes of 32 rows and 128 columns holding a function's values holds the function. -/
theorem canon_boxes {e : EltTy} (G : Fin 256 → Fin 8192 → Elt Ideal e) (f : Fin k0_t2_loop.trips → Fin 64 → S32x128.Idx → Elt Ideal e)
    (hf : ∀ k g i l, f k g (ix2 i l) = G (rowOf k i) (col g l))
    (P : ℕ → List (View.Piece (Elt Ideal) S256x8192 e)) (h0 : P 0 = [])
    (hs : ∀ k : Fin k0_t2_loop.trips, P (k.val + 1) = (groupsRev.map fun g => ⟨Rect.unit (s := S256x8192) (offU k g) S32x128.size (offU_inb k g), f k g⟩) ++ P k.val)
    (r : Fin 256) (j : Fin 8192) : View.canon (Val := Elt Ideal) (P k0_t2_loop.trips) (ix2 r j) = G r j := by
  refine (View.canon_apply_of_pieces (fun y => G (y 0) (y 1)) _ ?_ (ix2 r j) ?_)
  · intro p hp
    obtain ⟨k, hk⟩ := (mem_loop P _ h0 hs p).1 hp
    obtain ⟨g, _, rfl⟩ := List.mem_map.1 hk
    intro x
    obtain ⟨i, l, rfl⟩ : ∃ (i : Fin 32) (l : Fin 128), x = ix2 i l := ⟨x 0, x 1, eq_ix2 x⟩
    rw [show (Rect.unit (s := S256x8192) (offU k g) S32x128.size (offU_inb k g)).emb (ix2 i l) = ix2 (rowOf k i) (col g l) from
      unit_ix2 _ _ _ _ _ _ (by rw [offU_eq]; rfl) (by rw [offU_eq]; rfl)]
    exact hf k g i l
  · obtain ⟨k, i, rfl⟩ := exists_rowOf r
    obtain ⟨g, l, rfl⟩ := exists_col j
    refine ⟨⟨Rect.unit (s := S256x8192) (offU k g) S32x128.size (offU_inb k g), f k g⟩, (mem_loop P _ h0 hs _).2 ⟨k, List.mem_map.2 ⟨g, mem_groupsRev g, rfl⟩⟩, mem_unit_ix2 _ (offU_inb k g) _ _ ?_ ?_⟩
    · rw [offU_eq]; exact ⟨Nat.le_add_right _ _, Nat.add_lt_add_left i.isLt _⟩
    · rw [offU_eq]; exact ⟨Nat.le_add_right _ _, Nat.add_lt_add_left l.isLt _⟩

/-- The scales' buffer, entry by entry. -/
def packedG (y : S256x128.Idx) : EReal :=
  packedC (xL arg3 (harg3.unread x2) ⟨(y 0).val / 32, by rw [trips2]; have : (y 0).val < 256 := (y 0).isLt; omega⟩) (wL arg4 (harg4.unread x3))
    (ix2 (⟨(y 0).val % 32, by omega⟩ : Fin 32) (y 1))

variable (hw : ∀ j, max (rowW x3 j) (-(rowW x3 j)) ≤ B 0x7F7F0000#32)
include hw

theorem loop_codes (P : ℕ → List (View.Piece (Elt Ideal) S256x8192 .fp8e4m3)) (h0 : P 0 = [])
    (hs : ∀ k : Fin k0_t2_loop.trips, P (k.val + 1) = (groupsRev.map fun g => ⟨Rect.unit (s := S256x8192) (offU k g) S32x128.size (offU_inb k g),
      codesC (xL arg3 (harg3.unread x2) k) (wL arg4 (harg4.unread x3)) g⟩) ++ P k.val) (r : Fin 256) (j : Fin 8192) :
    View.canon (Val := Elt Ideal) (P k0_t2_loop.trips) (ix2 r j) = code (rowX x2 r) (rowW x3) j :=
  canon_boxes (fun r j => code (rowX x2 r) (rowW x3) j) _ (fun k g i l => by
    rw [codesC_apply _ _ (by rw [wr_wL]; exact hw), wr_wL, xr_xL]) P h0 hs r j

theorem loop_xa (P : ℕ → List (View.Piece (Elt Ideal) S256x8192 .bf16)) (h0 : P 0 = [])
    (hs : ∀ k : Fin k0_t2_loop.trips, P (k.val + 1) = (groupsRev.map fun g => ⟨Rect.unit (s := S256x8192) (offU k g) S32x128.size (offU_inb k g),
      xaC (xL arg3 (harg3.unread x2) k) (wL arg4 (harg4.unread x3)) g⟩) ++ P k.val) (r : Fin 256) (j : Fin 8192) :
    View.canon (Val := Elt Ideal) (P k0_t2_loop.trips) (ix2 r j) = deq (rowX x2 r) (rowW x3) j :=
  canon_boxes (fun r j => deq (rowX x2 r) (rowW x3) j) _ (fun k g i l => by
    rw [xaC_apply _ _ (by rw [wr_wL]; exact hw), wr_wL, xr_xL]) P h0 hs r j

theorem loop_packed (P : ℕ → List (View.Piece (Elt Ideal) S256x128 .f32)) (h0 : P 0 = [])
    (hs : ∀ k : Fin k0_t2_loop.trips, P (k.val + 1) = [⟨Rect.unit (s := S256x128) (k0_off102 k) S32x128.size (k0_off102_inb k),
      packedC (xL arg3 (harg3.unread x2) k) (wL arg4 (harg4.unread x3))⟩] ++ P k.val) (r : Fin 256) (g : Fin 64) :
    View.canon (Val := Elt Ideal) (P k0_t2_loop.trips) (ix2 r (⟨g.val, by omega⟩ : Fin 128)) = scale (tmax (rowX x2 r) (rowW x3) g) := by
  have key : View.canon (Val := Elt Ideal) (P k0_t2_loop.trips) (ix2 r (⟨g.val, by omega⟩ : Fin 128))
      = packedG arg3 harg3 arg4 harg4 x2 x3 (ix2 r (⟨g.val, by omega⟩ : Fin 128)) := by
    refine (View.canon_apply_of_pieces (Val := Elt Ideal) (e := .f32) (packedG arg3 harg3 arg4 harg4 x2 x3) _ ?_ _ ?_)
    · intro p hp
      obtain ⟨k, hk⟩ := (mem_loop P _ h0 hs p).1 hp
      obtain rfl := List.mem_singleton.1 hk
      intro x
      obtain ⟨i, l, rfl⟩ : ∃ (i : Fin 32) (l : Fin 128), x = ix2 i l := ⟨x 0, x 1, eq_ix2 x⟩
      rw [show (Rect.unit (s := S256x128) (k0_off102 k) S32x128.size (k0_off102_inb k)).emb (ix2 i l) = ix2 (rowOf k i) l from
        unit_ix2 _ _ _ _ _ _ (by rw [k0_off102_eq]; rfl) (by rw [k0_off102_eq]; exact Nat.zero_add _)]
      have e1 : (rowOf k i).val / 32 = k.val := by show (32 * k.val + i.val) / 32 = _; omega
      have e2 : (rowOf k i).val % 32 = i.val := by show (32 * k.val + i.val) % 32 = _; omega
      show packedC _ _ (ix2 i l) = packedC (xL arg3 (harg3.unread x2) ⟨(rowOf k i).val / 32, _⟩) _ (ix2 (⟨(rowOf k i).val % 32, _⟩ : Fin 32) l)
      congr 2
      · exact Fin.ext e1.symm
      · exact Fin.ext e2.symm
    · obtain ⟨k, i, rfl⟩ := exists_rowOf r
      refine ⟨_, (mem_loop P _ h0 hs _).2 ⟨k, List.mem_singleton.2 rfl⟩, mem_unit_ix2 _ (k0_off102_inb k) _ _ ?_ ?_⟩
      · rw [k0_off102_eq]; exact ⟨Nat.le_add_right _ _, Nat.add_lt_add_left i.isLt _⟩
      · rw [k0_off102_eq]; exact ⟨Nat.zero_le _, show g.val < 0 + 128 by omega⟩
  rw [key]
  show packedC (xL arg3 (harg3.unread x2) ⟨r.val / 32, _⟩) _ (ix2 (⟨r.val % 32, _⟩ : Fin 32) (⟨g.val, _⟩ : Fin 128)) = _
  rw [packedC_apply _ _ (by rw [wr_wL]; exact hw), wr_wL, xr_xL]
  rw [show rowOf ⟨r.val / 32, _⟩ ⟨r.val % 32, _⟩ = r from Fin.ext (by show 32 * (r.val / 32) + r.val % 32 = r.val; omega)]
end

section
variable (arg2 : Memref sig .tc .smem S18x64 .f32) (harg2 : arg2.IsWhole) (x1 : S18x64.Idx → Elt Ideal .f32)
  (arg6 : Memref sig .tc .hbm S8192x2304 .fp8e4m3) (arg14 : Memref sig .tc .vmem S128x2304 .fp8e4m3)
  (i : grid0.Coords) (k0_h1 : k0_cond1 i = 1#1) (X_arg6 : BufTy.Contents (Elt Ideal) arg6.view.ty)

theorem sL_unread (k : Fin k0_t1_loop.trips) (n : Fin 18) : sL arg2 (harg2.unread x1) k n = x1 (ix2 n (⟨k.val, lt_of_lt_of_eq k.isLt trips1⟩ : Fin 64)) := by
  unfold sL
  rw [Memref.IsWhole.readAt_unread]
  refine congrArg x1 ?_
  exact (congrArg (Rect.unit (s := S18x64) (offS k n) S1x1.size (offS_inb k n)).emb (ix2_unit _)).trans
    (unit_ix2 (m0 := 1) (m1 := 1) _ _ (0 : Fin 1) (0 : Fin 1) _ _ (congrFun (offS_eq k n) 0) (congrFun (offS_eq k n) 1))

theorem vL_apply (k : Fin k0_t1_loop.trips) (n : Fin 18) (b a : Fin 128) :
    vL arg6 arg14 i k0_h1 X_arg6 k n (ix2 b a) = View.read (Elt Ideal) arg6.view X_arg6
      (ix2 (⟨128 * k.val + b.val, by have := lt_of_lt_of_eq k.isLt trips1; omega⟩ : Fin 8192) (⟨128 * n.val + a.val, by omega⟩ : Fin 2304)) := by
  unfold vL
  rw [View.readCov_eq_canon']
  show View.canon _ ((Rect.unit (s := S128x2304) ![0, 128 * n.val] S128x128.size (offV_inb n)).emb (ix2 b a)) = _
  rw [unit_ix2 _ _ b a (⟨b.val, b.isLt⟩ : Fin 128) (⟨128 * n.val + a.val, by omega⟩ : Fin 2304) (Nat.zero_add _) rfl]
  refine (View.canon_apply_of_pieces (trip_k0_t1.sl.dma0 i arg6 k0_h1 X_arg6 k) _ ?_ _ ?_).trans ?_
  · intro p hp
    obtain rfl := List.mem_singleton.1 hp
    intro x
    rw [Rect.emb_whole_apply]
  · exact ⟨_, List.mem_singleton.2 rfl, by rw [Rect.set_whole]; exact Finset.mem_univ _⟩
  · show View.read (Elt Ideal) arg6.view X_arg6 ((Rect.unit (s := S8192x2304) (k0_off1 k) S128x2304.size _).emb _) = _
    refine congrArg _ (unit_ix2 _ _ _ _ _ _ ?_ ?_)
    · rw [k0_off1_eq]; rfl
    · rw [k0_off1_eq]; exact Nat.zero_add _

/-- An entry of the weights times its block's scale. -/
def wdeq (W : S8192x2304.Idx → Elt Ideal .fp8e4m3) (n : Fin 2304) (k : Fin 8192) : EReal :=
  W (ix2 k n) * x1 (ix2 (⟨n.val / 128, by omega⟩ : Fin 18) (⟨k.val / 128, by omega⟩ : Fin 64))

theorem loop_wt (P : ℕ → List (View.Piece (Elt Ideal) S2304x8192 .bf16)) (h0 : P 0 = [])
    (hs : ∀ k : Fin k0_t1_loop.trips, P (k.val + 1) = (blocksRev.map fun n => ⟨Rect.unit (s := S2304x8192) (offT k n) S128x128.size (offT_inb k n),
      wtC (sL arg2 (harg2.unread x1) k n) (vL arg6 arg14 i k0_h1 X_arg6 k n)⟩) ++ P k.val) (n : Fin 2304) (j : Fin 8192) :
    View.canon (Val := Elt Ideal) (P k0_t1_loop.trips) (ix2 n j) = wdeq x1 (View.read (Elt Ideal) arg6.view X_arg6) n j := by
  refine (View.canon_apply_of_pieces (Val := Elt Ideal) (e := .bf16) (fun y : S2304x8192.Idx => wdeq x1 (View.read (Elt Ideal) arg6.view X_arg6) (y 0) (y 1)) _ ?_ (ix2 n j) ?_)
  · intro p hp
    obtain ⟨k, hk⟩ := (mem_loop P _ h0 hs p).1 hp
    obtain ⟨n, _, rfl⟩ := List.mem_map.1 hk
    intro x
    obtain ⟨a, b, rfl⟩ : ∃ (a : Fin 128) (b : Fin 128), x = ix2 a b := ⟨x 0, x 1, eq_ix2 x⟩
    have hk := lt_of_lt_of_eq k.isLt trips1
    rw [show (Rect.unit (s := S2304x8192) (offT k n) S128x128.size (offT_inb k n)).emb (ix2 a b)
        = ix2 (⟨128 * n.val + a.val, by omega⟩ : Fin 2304) (⟨128 * k.val + b.val, by omega⟩ : Fin 8192) from
      unit_ix2 _ _ _ _ _ _ (by rw [offT_eq]; rfl) (by rw [offT_eq]; rfl)]
    show (wtC (F := Ideal) (sL arg2 (harg2.unread x1) k n) (vL arg6 arg14 i k0_h1 X_arg6 k n) (ix2 a b) : EReal) = wdeq x1 _ (⟨128 * n.val + a.val, _⟩ : Fin 2304) (⟨128 * k.val + b.val, _⟩ : Fin 8192)
    unfold wtC wdeq
    rw [shapeCast_self, mulf_apply, transpose_ix2_apply, extf_apply, truncf_apply, broadcast_apply, vL_apply, sL_unread]
    refine congrArg (fun y => _ * x1 y) (congrArg₂ ix2 (Fin.ext ?_) (Fin.ext ?_))
    · show n.val = (128 * n.val + a.val) / 128; omega
    · show k.val = (128 * k.val + b.val) / 128; omega
  · refine ⟨_, (mem_loop P _ h0 hs _).2 ⟨⟨j.val / 128, by rw [trips1]; omega⟩, List.mem_map.2 ⟨⟨n.val / 128, by omega⟩, mem_blocksRev _, rfl⟩⟩, mem_unit_ix2 _ (offT_inb _ _) _ _ ?_ ?_⟩
    · rw [offT_eq]; show 128 * (n.val / 128) ≤ n.val ∧ n.val < 128 * (n.val / 128) + 128; omega
    · rw [offT_eq]; show 128 * (j.val / 128) ≤ j.val ∧ j.val < 128 * (j.val / 128) + 128; omega
end

end Cert.KernelIdeal.Hand
-- ==== Proof.Result.lean ====
module

public import proofs.«01_k».proof.Proof.Spec
public import Idealize.ShloMosaic.Lib.ValueIdx

@[expose] public section
noncomputable section
namespace Cert.Spec
open Idealize.ShloMosaic Idealize.ShloMosaic.ValueIdx
open scoped BigOperators

/-! # The five results, entry by entry

Of the rows, the norm's weights, the matrix and its scales, the positions' offsets and the frequencies. -/

/-- Row `d` of query head `n`, of key head `n` and of value head `n` among the product's rows. -/
def qrow (n : Fin 32) (d : Fin 64) : Fin 2304 := ⟨64 * n.val + d.val, by omega⟩
def krow (n : Fin 2) (d : Fin 64) : Fin 2304 := ⟨2048 + (64 * n.val + d.val), by omega⟩
def vrow (n : Fin 2) (d : Fin 64) : Fin 2304 := ⟨2176 + (64 * n.val + d.val), by omega⟩

section
variable (x : (⟨3, ![4, 6144, 8192]⟩ : Shape).Idx → EReal) (w : Fin 8192 → EReal) (W : (⟨2, ![8192, 2304]⟩ : Shape).Idx → EReal)
  (s : (⟨2, ![64, 18]⟩ : Shape).Idx → EReal) (off : (⟨1, ![4]⟩ : Shape).Idx → BitVec 32) (inv : Fin 64 → EReal)

/-- A row of the input. -/
def xrow (b : Fin 4) (p : Fin 6144) (j : Fin 8192) : EReal := x (ix3 b p j)

/-- An entry of the matrix times its block's scale. -/
def wdq (n : Fin 2304) (k : Fin 8192) : EReal :=
  W (ix2 k n) * s (ix2 (⟨k.val / 128, by omega⟩ : Fin 64) (⟨n.val / 128, by omega⟩ : Fin 18))

/-- An entry of the product. -/
def prodE (n : Fin 2304) (b : Fin 4) (p : Fin 6144) : EReal := ∑ k, wdq W s n k * deq (xrow x b p) w k

/-- The angle of a position. -/
def angE (b : Fin 4) (p : Fin 6144) (d : Fin 64) : EReal :=
  FloatOps.sitofp (F := Ideal) .f32 (off (ix1 b) + BitVec.ofNat 32 p.val) * inv d

def resQ (b : Fin 4) (p : Fin 6144) (n : Fin 32) (d : Fin 64) : EReal := rope (fun d => prodE x w W s (qrow n d) b p) (angE off inv b p) d
def resK (b : Fin 4) (p : Fin 6144) (n : Fin 2) (d : Fin 64) : EReal := rope (fun d => prodE x w W s (krow n d) b p) (angE off inv b p) d
def resV (b : Fin 4) (p : Fin 6144) (n : Fin 2) (d : Fin 64) : EReal := prodE x w W s (vrow n d) b p
def resC (b : Fin 4) (p : Fin 6144) (j : Fin 8192) : EReal := code (xrow x b p) w j
def resS (b : Fin 4) (p : Fin 6144) (g : Fin 64) : EReal := scale (tmax (xrow x b p) w g)
end

end Cert.Spec
-- ==== Proof.Heads.lean ====
module

public import proofs.«01_k».proof.Proof.Weights

@[expose] public section
noncomputable section
namespace Cert.KernelIdeal.Hand
open Cert.KernelIdeal Cert.KernelIdeal.Gen Idealize.ShloMosaic Idealize.ShloMosaic.TcCoe Idealize.SL.Sem
variable {F : FTy → Type} [FloatOps F]

/-! # The pieces a run of the body leaves in its outputs

The product is taken 768 rows at a time, and a head is 64 of them. A query's or key's head is rotated and a value's
head is stored as it is: one function of the head's number each. -/

theorem sliceC_ok : ∀ h : Fin 12, S768x256.Slices ![64 * h.val, 0] S64x256 := by decide
theorem inbW : ∀ n : Fin 3, ∀ a, (![768 * n.val, 0] : Fin 2 → Nat) a + S768x8192.size a ≤ S2304x8192.size a := by decide
theorem inbQ : ∀ n : Fin 32, ∀ a, (![0, 64 * n.val, 0] : Fin 3 → Nat) a + S1x64x256.size a ≤ S1x2048x256.size a := by decide
theorem inbK : ∀ n : Fin 2, ∀ a, (![0, 64 * n.val, 0] : Fin 3 → Nat) a + S1x64x256.size a ≤ S1x128x256.size a := by decide

/-- A third of the product. -/
def yC (W : Fin 3 → Vec F S768x8192 .bf16) (XA : Vec F S256x8192 .bf16) (n : Fin 3) : FVec F S768x256 .f32 :=
  matmul dot_S768x8192_S256x8192_S768x256_1_1_0_0_n_n none (W n) XA (constant S768x256 .f32 0x00000000#32)

/-- Head `j` of the 36. -/
def headC (W : Fin 3 → Vec F S768x8192 .bf16) (XA : Vec F S256x8192 .bf16) (n : Fin 3) (h : Fin 12) : FVec F S64x256 .f32 :=
  extractStridedSlice S64x256 ![64 * h.val, 0] (yC W XA n) (sliceC_ok h)

/-- The angles. -/
def angC (i : grid0.Coords) (p : Elt F .i32) (f : Vec F S64x1 .f32) : FVec F S64x256 .f32 :=
  k0_pay648 24#32 (kernelRun0_B.sl.v22 i) (kernelRun0_B.sl.v23 i) (kernelRun0_B.sl.v31 i) 0#32 p f

/-- The sines, negated on the even rows. -/
def sinC (i : grid0.Coords) (p : Elt F .i32) (f : Vec F S64x1 .f32) : FVec F S64x256 .f32 :=
  select k0_pay650 (subf (broadcast S64x256 (Scalar.ofBits .f32 0x00000000#32 : F .f32)) (sin (angC i p f))) (sin (angC i p f))

/-- A head rotated. -/
def ropeC (i : grid0.Coords) (p : Elt F .i32) (f : Vec F S64x1 .f32) (t : FVec F S64x256 .f32) : FVec F S1x64x256 .bf16 :=
  shapeCast S1x64x256 (truncf .bf16 (addf (mulf t (cos (angC i p f)))
    (mulf (select k0_pay650 (dynamicRotate 0 63#32 none t rotates_S64x256_d0) (dynamicRotate 0 1#32 none t rotates_S64x256_d0)) (sinC i p f)))
    bitsLt_bf16_f32) shapeCasts_S64x256_S1x64x256

/-- A head as it is. -/
def plainC (t : FVec F S64x256 .f32) : FVec F S1x64x256 .bf16 :=
  shapeCast S1x64x256 (truncf .bf16 t bitsLt_bf16_f32) shapeCasts_S64x256_S1x64x256

/-- The query heads' pieces. -/
def qPieces (W : Fin 3 → Vec F S768x8192 .bf16) (XA : Vec F S256x8192 .bf16) (i : grid0.Coords) (p : Elt F .i32) (f : Vec F S64x1 .f32) :
    List (View.Piece (Elt F) S1x2048x256 .bf16) :=
  ([31, 30, 29, 28, 27, 26, 25, 24, 23, 22, 21, 20, 19, 18, 17, 16, 15, 14, 13, 12, 11, 10, 9, 8, 7, 6, 5, 4, 3, 2, 1, 0] : List (Fin 32)).map fun n => ⟨Rect.unit (s := S1x2048x256) ![0, 64 * n.val, 0] S1x64x256.size (inbQ n),
    ropeC i p f (headC W XA ⟨n.val / 12, by omega⟩ ⟨n.val % 12, by omega⟩)⟩

/-- The key heads'. -/
def kPieces (W : Fin 3 → Vec F S768x8192 .bf16) (XA : Vec F S256x8192 .bf16) (i : grid0.Coords) (p : Elt F .i32) (f : Vec F S64x1 .f32) :
    List (View.Piece (Elt F) S1x128x256 .bf16) :=
  ([1, 0] : List (Fin 2)).map fun n => ⟨Rect.unit (s := S1x128x256) ![0, 64 * n.val, 0] S1x64x256.size (inbK n),
    ropeC i p f (headC W XA 2 ⟨8 + n.val, by omega⟩)⟩

/-- The value heads'. -/
def vPieces (W : Fin 3 → Vec F S768x8192 .bf16) (XA : Vec F S256x8192 .bf16) : List (View.Piece (Elt F) S1x128x256 .bf16) :=
  ([1, 0] : List (Fin 2)).map fun n => ⟨Rect.unit (s := S1x128x256) ![0, 64 * n.val, 0] S1x64x256.size (inbK n),
    plainC (headC W XA 2 ⟨10 + n.val, by omega⟩)⟩

/-- The scales' piece. -/
def xsPieces (P : Vec F S256x128 .f32) : List (View.Piece (Elt F) S1x64x256 .f32) :=
  [⟨Rect.unit (s := S1x64x256) ![0, 0, 0] S1x64x256.size inb_S1x64x256_S1x64x256_0_0_0, k0_pay647 P⟩]

theorem runB_q (c : Dev nD) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (hc0 : ¬cond0_0 i)
    (x0 : Vec F S4 .i32) (x1 : Vec F S18x64 .f32) (x2 : Vec F S256x8192 .bf16) (x3 : Vec F S1x8192 .f32) (x4 : Vec F S64x128 .f32) (xs0 : Vec F S2304x8192 .bf16) (fh0 : HbBuf0 (F := F) c hbM0_0) :
    (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 xs0 fh0).1 = qPieces (fun n => View.readAt (Elt F) arg12.view (Rect.unit (s := S2304x8192) ![768 * n.val, 0] S768x8192.size (inbW n)).toLoadRect (harg12.unread xs0)) (arg13.view.readCov (pb_k0_t2 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).2.1 (Rect.unit (s := S256x8192) ![0, 0] S256x8192.size inb_S256x8192_S256x8192_0_0).toLoadRect) i (View.readAt (Elt F) arg1.view (Rect.unit (s := S4) (k0_off103 i) S1.size (k0_off103_inb i)).toLoadRect (harg1.unread x0) (Shape.Idx.first (by show 0 < S1.numel; decide))) (View.readAt (Elt F) arg5.view (Rect.unit (s := S64x128) ![0, 0] S64x1.size inb_S64x128_S64x1_0_0).toLoadRect (harg5.unread x4)) := by
  unfold kernelRun0_B
  dsimp only
  sl_kernel_rfl

theorem runB_k (c : Dev nD) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (hc0 : ¬cond0_0 i)
    (x0 : Vec F S4 .i32) (x1 : Vec F S18x64 .f32) (x2 : Vec F S256x8192 .bf16) (x3 : Vec F S1x8192 .f32) (x4 : Vec F S64x128 .f32) (xs0 : Vec F S2304x8192 .bf16) (fh0 : HbBuf0 (F := F) c hbM0_0) :
    (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 xs0 fh0).2.1 = kPieces (fun n => View.readAt (Elt F) arg12.view (Rect.unit (s := S2304x8192) ![768 * n.val, 0] S768x8192.size (inbW n)).toLoadRect (harg12.unread xs0)) (arg13.view.readCov (pb_k0_t2 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).2.1 (Rect.unit (s := S256x8192) ![0, 0] S256x8192.size inb_S256x8192_S256x8192_0_0).toLoadRect) i (View.readAt (Elt F) arg1.view (Rect.unit (s := S4) (k0_off103 i) S1.size (k0_off103_inb i)).toLoadRect (harg1.unread x0) (Shape.Idx.first (by show 0 < S1.numel; decide))) (View.readAt (Elt F) arg5.view (Rect.unit (s := S64x128) ![0, 0] S64x1.size inb_S64x128_S64x1_0_0).toLoadRect (harg5.unread x4)) := by
  unfold kernelRun0_B
  dsimp only
  sl_kernel_rfl

theorem runB_v (c : Dev nD) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (hc0 : ¬cond0_0 i)
    (x0 : Vec F S4 .i32) (x1 : Vec F S18x64 .f32) (x2 : Vec F S256x8192 .bf16) (x3 : Vec F S1x8192 .f32) (x4 : Vec F S64x128 .f32) (xs0 : Vec F S2304x8192 .bf16) (fh0 : HbBuf0 (F := F) c hbM0_0) :
    (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 xs0 fh0).2.2.1 = vPieces (fun n => View.readAt (Elt F) arg12.view (Rect.unit (s := S2304x8192) ![768 * n.val, 0] S768x8192.size (inbW n)).toLoadRect (harg12.unread xs0)) (arg13.view.readCov (pb_k0_t2 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).2.1 (Rect.unit (s := S256x8192) ![0, 0] S256x8192.size inb_S256x8192_S256x8192_0_0).toLoadRect) := by
  unfold kernelRun0_B
  dsimp only
  sl_kernel_rfl

theorem runB_codes (c : Dev nD) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (hc0 : ¬cond0_0 i)
    (x0 : Vec F S4 .i32) (x1 : Vec F S18x64 .f32) (x2 : Vec F S256x8192 .bf16) (x3 : Vec F S1x8192 .f32) (x4 : Vec F S64x128 .f32) (xs0 : Vec F S2304x8192 .bf16) (fh0 : HbBuf0 (F := F) c hbM0_0) :
    (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 xs0 fh0).2.2.2.1 = (pb_k0_t2 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).1 := by
  unfold kernelRun0_B
  dsimp only

theorem runB_xs (c : Dev nD) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (hc0 : ¬cond0_0 i)
    (x0 : Vec F S4 .i32) (x1 : Vec F S18x64 .f32) (x2 : Vec F S256x8192 .bf16) (x3 : Vec F S1x8192 .f32) (x4 : Vec F S64x128 .f32) (xs0 : Vec F S2304x8192 .bf16) (fh0 : HbBuf0 (F := F) c hbM0_0) :
    (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 xs0 fh0).2.2.2.2.1 = xsPieces (arg15.view.readCov (pb_k0_t2 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).2.2 (Rect.unit (s := S256x128) ![0, 0] S256x128.size inb_S256x128_S256x128_0_0).toLoadRect) := by
  unfold kernelRun0_B
  dsimp only
  sl_kernel_rfl

theorem runA_q (c : Dev nD) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (hc0 : cond0_0 i)
    (x0 : Vec F S4 .i32) (x1 : Vec F S18x64 .f32) (x2 : Vec F S256x8192 .bf16) (x3 : Vec F S1x8192 .f32) (x4 : Vec F S64x128 .f32) (fh0 : HbBuf0 (F := F) c hbM0_0) :
    (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 fh0).1 = qPieces (fun n => arg12.view.readCov (pb_k0_t1 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 hc0 (harg2.unread x1) fh0 k0_t1_loop.trips) (Rect.unit (s := S2304x8192) ![768 * n.val, 0] S768x8192.size (inbW n)).toLoadRect) (arg13.view.readCov (pb_k0_t2 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).2.1 (Rect.unit (s := S256x8192) ![0, 0] S256x8192.size inb_S256x8192_S256x8192_0_0).toLoadRect) i (View.readAt (Elt F) arg1.view (Rect.unit (s := S4) (k0_off103 i) S1.size (k0_off103_inb i)).toLoadRect (harg1.unread x0) (Shape.Idx.first (by show 0 < S1.numel; decide))) (View.readAt (Elt F) arg5.view (Rect.unit (s := S64x128) ![0, 0] S64x1.size inb_S64x128_S64x1_0_0).toLoadRect (harg5.unread x4)) := by
  unfold kernelRun0_A
  dsimp only
  sl_kernel_rfl

theorem runA_k (c : Dev nD) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (hc0 : cond0_0 i)
    (x0 : Vec F S4 .i32) (x1 : Vec F S18x64 .f32) (x2 : Vec F S256x8192 .bf16) (x3 : Vec F S1x8192 .f32) (x4 : Vec F S64x128 .f32) (fh0 : HbBuf0 (F := F) c hbM0_0) :
    (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 fh0).2.1 = kPieces (fun n => arg12.view.readCov (pb_k0_t1 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 hc0 (harg2.unread x1) fh0 k0_t1_loop.trips) (Rect.unit (s := S2304x8192) ![768 * n.val, 0] S768x8192.size (inbW n)).toLoadRect) (arg13.view.readCov (pb_k0_t2 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).2.1 (Rect.unit (s := S256x8192) ![0, 0] S256x8192.size inb_S256x8192_S256x8192_0_0).toLoadRect) i (View.readAt (Elt F) arg1.view (Rect.unit (s := S4) (k0_off103 i) S1.size (k0_off103_inb i)).toLoadRect (harg1.unread x0) (Shape.Idx.first (by show 0 < S1.numel; decide))) (View.readAt (Elt F) arg5.view (Rect.unit (s := S64x128) ![0, 0] S64x1.size inb_S64x128_S64x1_0_0).toLoadRect (harg5.unread x4)) := by
  unfold kernelRun0_A
  dsimp only
  sl_kernel_rfl

theorem runA_v (c : Dev nD) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (hc0 : cond0_0 i)
    (x0 : Vec F S4 .i32) (x1 : Vec F S18x64 .f32) (x2 : Vec F S256x8192 .bf16) (x3 : Vec F S1x8192 .f32) (x4 : Vec F S64x128 .f32) (fh0 : HbBuf0 (F := F) c hbM0_0) :
    (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 fh0).2.2.1 = vPieces (fun n => arg12.view.readCov (pb_k0_t1 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 hc0 (harg2.unread x1) fh0 k0_t1_loop.trips) (Rect.unit (s := S2304x8192) ![768 * n.val, 0] S768x8192.size (inbW n)).toLoadRect) (arg13.view.readCov (pb_k0_t2 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).2.1 (Rect.unit (s := S256x8192) ![0, 0] S256x8192.size inb_S256x8192_S256x8192_0_0).toLoadRect) := by
  unfold kernelRun0_A
  dsimp only
  sl_kernel_rfl

theorem runA_codes (c : Dev nD) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (hc0 : cond0_0 i)
    (x0 : Vec F S4 .i32) (x1 : Vec F S18x64 .f32) (x2 : Vec F S256x8192 .bf16) (x3 : Vec F S1x8192 .f32) (x4 : Vec F S64x128 .f32) (fh0 : HbBuf0 (F := F) c hbM0_0) :
    (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 fh0).2.2.2.1 = (pb_k0_t2 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).1 := by
  unfold kernelRun0_A
  dsimp only

theorem runA_xs (c : Dev nD) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (hc0 : cond0_0 i)
    (x0 : Vec F S4 .i32) (x1 : Vec F S18x64 .f32) (x2 : Vec F S256x8192 .bf16) (x3 : Vec F S1x8192 .f32) (x4 : Vec F S64x128 .f32) (fh0 : HbBuf0 (F := F) c hbM0_0) :
    (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 fh0).2.2.2.2.1 = xsPieces (arg15.view.readCov (pb_k0_t2 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).2.2 (Rect.unit (s := S256x128) ![0, 0] S256x128.size inb_S256x128_S256x128_0_0).toLoadRect) := by
  unfold kernelRun0_A
  dsimp only
  sl_kernel_rfl

theorem runA_wt (c : Dev nD) (i : grid0.Coords) (arg1 : Memref sig .tc .smem S4 .i32) (harg1 : arg1.IsWhole) (arg2 : Memref sig .tc .smem S18x64 .f32) (harg2 : arg2.IsWhole) (arg3 : Memref sig .tc .vmem S256x8192 .bf16) (harg3 : arg3.IsWhole) (arg4 : Memref sig .tc .vmem S1x8192 .f32) (harg4 : arg4.IsWhole) (arg5 : Memref sig .tc .vmem S64x128 .f32) (harg5 : arg5.IsWhole) (arg7 : Memref sig .tc .vmem S1x2048x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S256x8192 .fp8e4m3) (harg10 : arg10.IsWhole) (arg11 : Memref sig .tc .vmem S1x64x256 .f32) (harg11 : arg11.IsWhole) (arg12 : Memref sig .tc .vmem S2304x8192 .bf16) (harg12 : arg12.IsWhole) (arg13 : Memref sig .tc .vmem S256x8192 .bf16) (harg13 : arg13.IsWhole) (arg14 : Memref sig .tc .vmem S128x2304 .fp8e4m3) (harg14 : arg14.IsWhole) (arg15 : Memref sig .tc .vmem S256x128 .f32) (harg15 : arg15.IsWhole) (hc0 : cond0_0 i)
    (x0 : Vec F S4 .i32) (x1 : Vec F S18x64 .f32) (x2 : Vec F S256x8192 .bf16) (x3 : Vec F S1x8192 .f32) (x4 : Vec F S64x128 .f32) (fh0 : HbBuf0 (F := F) c hbM0_0) :
    (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 fh0).2.2.2.2.2.1 = (pb_k0_t1 (F := F) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 hc0 (harg2.unread x1) fh0 k0_t1_loop.trips) := by
  unfold kernelRun0_A
  dsimp only

end Cert.KernelIdeal.Hand
-- ==== Proof.HeadVal.lean ====
module

public import proofs.«01_k».proof.Proof.Result
public import proofs.«01_k».proof.Proof.Heads
public import proofs.«01_k».proof.Proof.Loop
public import Idealize.ShloMosaic.Lib.KernelVsHost
public import Idealize.ShloMosaic.Lib.MatmulPlain

@[expose] public section
noncomputable section
namespace Cert.KernelIdeal.Hand
open Cert.KernelIdeal Cert.KernelIdeal.Gen Idealize.ShloMosaic Idealize.ShloMosaic.TcCoe Idealize.SL.Sem
open Idealize.ShloMosaic.ValueIdx Cert.Spec
open scoped BigOperators

/-! # The heads over the extended reals

A head's rows of the product, rotated by the angles of the block's positions, and where the pieces lie. -/

/-- The product of the weights' rows and the block's rows. -/
def ySum (Wt : Fin 2304 → Fin 8192 → EReal) (D : Fin 256 → Fin 8192 → EReal) (n : Fin 2304) (r : Fin 256) : EReal := ∑ k, Wt n k * D r k

/-- The word of the position of row `r` of the block. -/
def posW (i : grid0.Coords) (p : BitVec 32) (r : Fin 256) : BitVec 32 := p + BitVec.ofNat 32 ((i 0).val % 24) * 256#32 + BitVec.ofNat 32 r.val

/-- The angle of row `r` and pair entry `d`. -/
def angS (i : grid0.Coords) (p : BitVec 32) (f : S64x1.Idx → EReal) (r : Fin 256) (d : Fin 64) : EReal :=
  FloatOps.sitofp (F := Ideal) .f32 (posW i p r) * f (ix2 d (0 : Fin 1))

/-- Which block of its batch entry a grid point handles. -/
def selW (i : grid0.Coords) : BitVec 32 :=
  Scalar.select (Scalar.andi (Scalar.xori (kernelRun0_B.sl.v31 i) (Scalar.cmpi .slt 24#32 0#32)) (kernelRun0_B.sl.v23 i))
    (Scalar.addi (kernelRun0_B.sl.v22 i) 24#32) (kernelRun0_B.sl.v22 i)

theorem selW_eq (i : grid0.Coords) : selW i = BitVec.ofNat 32 ((i 0).val % 24) := by
  revert i
  show ∀ i : ((a : Fin 1) → Fin ((![96] : Fin 1 → ℕ) a)), selW i = BitVec.ofNat 32 ((i 0).val % 24)
  decide +kernel

theorem angC_apply (i : grid0.Coords) (p : Elt Ideal .i32) (f : Vec Ideal S64x1 .f32) (d : Fin 64) (r : Fin 256) :
    angC i p f (ix2 d r) = angS i p f r d := by
  show FloatOps.sitofp (F := Ideal) .f32 (p + selW i * 256#32 + iota .tc S64x256 32 [1] iota_S64x256_d1_w32 (ix2 d r))
    * broadcastTo S64x256 f broadcasts_S64x1_S64x256 (ix2 d r) = _
  rw [selW_eq, iota_single_apply, broadcastTo_apply f _ (ix2 d r) (ix2 d (0 : Fin 1)) fun a => match a with | ⟨0, _⟩ => rfl | ⟨1, _⟩ => rfl]
  rfl

theorem evenC_apply (d : Fin 64) (r : Fin 256) : k0_pay650 (ix2 d r) = BitVec.ofBool (decide (d.val % 2 = 0)) := by
  have h : ∀ d : Fin 64, k0_pay650 (ix2 d (0 : Fin 256)) = BitVec.ofBool (decide (d.val % 2 = 0)) := by decide +kernel
  refine Eq.trans ?_ (h d)
  rfl

theorem sinC_apply (i : grid0.Coords) (p : Elt Ideal .i32) (f : Vec Ideal S64x1 .f32) (d : Fin 64) (r : Fin 256) :
    sinC i p f (ix2 d r) = if d.val % 2 = 0 then -(Ideal.sin (angS i p f r d)) else Ideal.sin (angS i p f r d) := by
  unfold sinC
  rw [select_apply, evenC_apply]
  show Scalar.select _ (B 0x00000000#32 - Ideal.sin (angC i p f (ix2 d r))) (Ideal.sin (angC i p f (ix2 d r))) = _
  rw [angC_apply, show B 0x00000000#32 = 0 from Ideal.ofBits_zero_f32, zero_sub]
  by_cases h : d.val % 2 = 0
  · rw [if_pos h, decide_eq_true h]; rfl
  · rw [if_neg h, decide_eq_false h]; rfl

theorem ropeC_apply (i : grid0.Coords) (p : Elt Ideal .i32) (f : Vec Ideal S64x1 .f32) (t : FVec Ideal S64x256 .f32) (d : Fin 64) (r : Fin 256) :
    ropeC i p f t (ix3 (0 : Fin 1) d r) = rope (fun d => t (ix2 d r)) (angS i p f r) d := by
  unfold ropeC rope
  rw [shapeCast_ab_1ab_apply, truncf_apply, addf_apply, mulf_apply, mulf_apply, sinC_apply, select_apply, evenC_apply]
  show t (ix2 d r) * Ideal.cos (angC i p f (ix2 d r)) + _ = _
  rw [angC_apply]
  rw [dynamicRotate_apply 0 63#32 t rotates_S64x256_d0 (ix2 d r) (ix2 (⟨(d.val + 1) % 64, by omega⟩ : Fin 64) r) (fun b => match b with
    | ⟨0, _⟩ => by show (d.val + 1) % 64 = (d.val + 64 - 63) % 64; omega
    | ⟨1, _⟩ => rfl)]
  rw [dynamicRotate_apply 0 1#32 t rotates_S64x256_d0 (ix2 d r) (ix2 (⟨(d.val + 63) % 64, by omega⟩ : Fin 64) r) (fun b => match b with
    | ⟨0, _⟩ => by show (d.val + 63) % 64 = (d.val + 64 - 1) % 64; omega
    | ⟨1, _⟩ => rfl)]
  by_cases h : d.val % 2 = 0
  · rw [if_pos h, if_pos h, decide_eq_true h]; rfl
  · rw [if_neg h, if_neg h, decide_eq_false h]; rfl

/-- Row `a` of third `n` of the product's rows. -/
def wrow (n : Fin 3) (a : Fin 768) : Fin 2304 := ⟨768 * n.val + a.val, by omega⟩
/-- Row `d` of head `n` among the rows of the 32 heads and of the 2 heads. -/
def row32 (n : Fin 32) (d : Fin 64) : Fin 2048 := ⟨64 * n.val + d.val, by omega⟩
def row2 (n : Fin 2) (d : Fin 64) : Fin 128 := ⟨64 * n.val + d.val, by omega⟩

section
variable (W : Fin 3 → Vec Ideal S768x8192 .bf16) (XA : Vec Ideal S256x8192 .bf16) (Wt : Fin 2304 → Fin 8192 → EReal) (D : Fin 256 → Fin 8192 → EReal)
  (hW : ∀ (n : Fin 3) (a : Fin 768) (k : Fin 8192), W n (ix2 a k) = Wt (wrow n a) k)
  (hX : ∀ (r : Fin 256) (k : Fin 8192), XA (ix2 r k) = D r k)
include hW hX

theorem yC_apply (n : Fin 3) (a : Fin 768) (r : Fin 256) : yC W XA n (ix2 a r) = ySum Wt D (wrow n a) r := by
  have e : dot_S768x8192_S256x8192_S768x256_1_1_0_0_n_n = DotDims.transposedRhs 768 8192 256 := rfl
  unfold yC
  rw [e]
  refine (Ideal.matmul_transposedRhs_apply none (W n) XA _ a r).trans ?_
  rw [constant_apply, Ideal.ofBits_zero_f32, zero_add]
  exact Finset.sum_congr rfl fun k _ => by rw [hW, hX]

theorem headC_apply (n : Fin 3) (h : Fin 12) (d : Fin 64) (r : Fin 256) :
    headC W XA n h (ix2 d r) = ySum Wt D (wrow n (⟨64 * h.val + d.val, by omega⟩ : Fin 768)) r := by
  unfold headC
  rw [extractStridedSlice_apply _ _ _ _ (ix2 (⟨64 * h.val + d.val, by omega⟩ : Fin 768) r) (fun a => match a with
    | ⟨0, _⟩ => rfl
    | ⟨1, _⟩ => (Nat.zero_add _).symm)]
  exact yC_apply W XA Wt D hW hX n _ r
end

/-- A box of a plane, entry by entry. -/
theorem unit_ix3 {n0 n1 n2 m0 m1 m2 : ℕ} (off : Fin 3 → ℕ) (inb) (i : Fin m0) (j : Fin m1) (l : Fin m2) (a : Fin n0) (b : Fin n1) (c : Fin n2)
    (h0 : off 0 + i.val = a.val) (h1 : off 1 + j.val = b.val) (h2 : off 2 + l.val = c.val) :
    (Rect.unit (s := ⟨3, ![n0, n1, n2]⟩) off ![m0, m1, m2] inb).emb (ix3 i j l) = ix3 a b c := by
  funext d
  apply Fin.ext
  match d with
  | ⟨0, _⟩ => show off 0 + 1 * i.val = a.val; omega
  | ⟨1, _⟩ => show off 1 + 1 * j.val = b.val; omega
  | ⟨2, _⟩ => show off 2 + 1 * l.val = c.val; omega

/-- A function of the head and the row in it, over the rows of all heads. -/
def headG {N H : ℕ} (hN : N = 64 * H) {α : Type} (f : Fin H → S1x64x256.Idx → α) (y : (⟨3, ![1, N, 256]⟩ : Shape).Idx) : α :=
  f ⟨(y 1).val / 64, by have : (y 1).val < N := (y 1).isLt; omega⟩ (ix3 (0 : Fin 1) (⟨(y 1).val % 64, by omega⟩ : Fin 64) (y 2))

theorem headG_ix3 {N H : ℕ} (hN : N = 64 * H) {α : Type} (f : Fin H → S1x64x256.Idx → α) (n : Fin H) (d : Fin 64) (r : Fin 256) :
    headG hN f (ix3 (0 : Fin 1) (⟨64 * n.val + d.val, by omega⟩ : Fin N) r) = f n (ix3 (0 : Fin 1) d r) := by
  have e1 : ∀ h, (⟨(64 * n.val + d.val) / 64, h⟩ : Fin H) = n := fun _ => Fin.ext (by show (64 * n.val + d.val) / 64 = n.val; omega)
  have e2 : ∀ h, (⟨(64 * n.val + d.val) % 64, h⟩ : Fin 64) = d := fun _ => Fin.ext (by show (64 * n.val + d.val) % 64 = d.val; omega)
  exact (congrArg (fun k => f k (ix3 (0 : Fin 1) (⟨(64 * n.val + d.val) % 64, by omega⟩ : Fin 64) r)) (e1 (by omega))).trans
    (congrArg (fun d => f n (ix3 (0 : Fin 1) d r)) (e2 (by omega)))

/-- Heads of 64 rows laid one below the other hold a function of the head and the row in it. -/
theorem canon_heads {N H : ℕ} (hN : N = 64 * H) {e : EltTy} (inb : ∀ n : Fin H, ∀ a, (![0, 64 * n.val, 0] : Fin 3 → Nat) a + S1x64x256.size a ≤ (⟨3, ![1, N, 256]⟩ : Shape).size a)
    (l : List (Fin H)) (hl : ∀ n, n ∈ l) (f : Fin H → S1x64x256.Idx → Elt Ideal e) (n : Fin H) (d : Fin 64) (r : Fin 256) :
    View.canon (Val := Elt Ideal) (l.map fun n => (⟨Rect.unit (s := ⟨3, ![1, N, 256]⟩) ![0, 64 * n.val, 0] S1x64x256.size (inb n), f n⟩ : View.Piece (Elt Ideal) ⟨3, ![1, N, 256]⟩ e))
      (ix3 (0 : Fin 1) (⟨64 * n.val + d.val, by omega⟩ : Fin N) r) = f n (ix3 (0 : Fin 1) d r) := by
  refine (View.canon_apply_of_pieces (Val := Elt Ideal) (e := e) (headG hN f) _ ?_ _ ?_).trans (headG_ix3 hN f n d r)
  · intro p hp
    obtain ⟨n, _, rfl⟩ := List.mem_map.1 hp
    intro x
    obtain ⟨u, d, r, rfl⟩ : ∃ (u : Fin 1) (d : Fin 64) (r : Fin 256), x = ix3 u d r := ⟨x 0, x 1, x 2, eq_ix3 x⟩
    obtain rfl : u = 0 := Subsingleton.elim _ _
    refine (headG_ix3 hN f n d r).symm.trans (congrArg (headG hN f) ?_)
    exact (unit_ix3 (m0 := 1) (m1 := 64) (m2 := 256) ![0, 64 * n.val, 0] (inb n) (0 : Fin 1) d r (0 : Fin 1) (⟨64 * n.val + d.val, by omega⟩ : Fin N) r rfl rfl (Nat.zero_add _)).symm
  · exact ⟨_, List.mem_map.2 ⟨n, hl n, rfl⟩, (Rect.mem_set_unit (inb := inb n)).2 fun a => match a with
      | ⟨0, _⟩ => ⟨Nat.le_refl _, Nat.one_pos⟩
      | ⟨1, _⟩ => ⟨Nat.le_add_right _ _, Nat.add_lt_add_left d.isLt _⟩
      | ⟨2, _⟩ => ⟨Nat.zero_le _, show r.val < 0 + 256 by omega⟩⟩

section
variable (W : Fin 3 → Vec Ideal S768x8192 .bf16) (XA : Vec Ideal S256x8192 .bf16) (Wt : Fin 2304 → Fin 8192 → EReal) (D : Fin 256 → Fin 8192 → EReal)
  (hW : ∀ (n : Fin 3) (a : Fin 768) (k : Fin 8192), W n (ix2 a k) = Wt (wrow n a) k)
  (hX : ∀ (r : Fin 256) (k : Fin 8192), XA (ix2 r k) = D r k)
  (i : grid0.Coords) (p : Elt Ideal .i32) (f : Vec Ideal S64x1 .f32)
include hW hX

theorem canon_q (n : Fin 32) (d : Fin 64) (r : Fin 256) :
    View.canon (Val := Elt Ideal) (qPieces W XA i p f) (ix3 (0 : Fin 1) (row32 n d) r)
      = rope (fun d => ySum Wt D (qrow n d) r) (angS i p f r) d := by
  refine (canon_heads (N := 2048) (H := 32) rfl inbQ _ (by decide) _ n d r).trans ?_
  rw [ropeC_apply]
  refine congrArg (fun t => rope t _ d) (funext fun d => ?_)
  rw [headC_apply W XA Wt D hW hX]
  exact congrArg (fun n => ySum Wt D n r) (Fin.ext (by show 768 * (n.val / 12) + (64 * (n.val % 12) + d.val) = 64 * n.val + d.val; omega))

theorem canon_k (n : Fin 2) (d : Fin 64) (r : Fin 256) :
    View.canon (Val := Elt Ideal) (kPieces W XA i p f) (ix3 (0 : Fin 1) (row2 n d) r)
      = rope (fun d => ySum Wt D (krow n d) r) (angS i p f r) d := by
  refine (canon_heads (N := 128) (H := 2) rfl inbK _ (by decide) _ n d r).trans ?_
  rw [ropeC_apply]
  refine congrArg (fun t => rope t _ d) (funext fun d => ?_)
  rw [headC_apply W XA Wt D hW hX]
  exact congrArg (fun n => ySum Wt D n r) (Fin.ext (by show 768 * 2 + (64 * (8 + n.val) + d.val) = 2048 + (64 * n.val + d.val); omega))

theorem canon_v (n : Fin 2) (d : Fin 64) (r : Fin 256) :
    View.canon (Val := Elt Ideal) (vPieces W XA) (ix3 (0 : Fin 1) (row2 n d) r)
      = ySum Wt D (vrow n d) r := by
  refine (canon_heads (N := 128) (H := 2) rfl inbK _ (by decide) _ n d r).trans ?_
  unfold plainC
  rw [shapeCast_ab_1ab_apply, truncf_apply, headC_apply W XA Wt D hW hX]
  exact congrArg (fun n => ySum Wt D n r) (Fin.ext (by show 768 * 2 + (64 * (10 + n.val) + d.val) = 2176 + (64 * n.val + d.val); omega))
end

theorem canon_xs (P : Vec Ideal S256x128 .f32) (g : Fin 64) (r : Fin 256) :
    View.canon (Val := Elt Ideal) (xsPieces P) (ix3 (0 : Fin 1) g r) = P (ix2 r (⟨g.val, by omega⟩ : Fin 128)) := by
  refine (canon_heads (N := 64) (H := 1) rfl (e := .f32) (fun n => by obtain rfl : n = 0 := Subsingleton.elim _ _; exact inb_S1x64x256_S1x64x256_0_0_0) [0] (by decide) (fun _ => k0_pay647 P) 0 g r |> fun h => ?_)
  refine Eq.trans ?_ (h.trans ?_)
  · exact congrArg (View.canon (Val := Elt Ideal) (xsPieces P)) (congrArg (fun g => ix3 (0 : Fin 1) g r) (Fin.ext (Nat.zero_add _).symm))
  · unfold k0_pay647
    rw [shapeCast_ab_1ab_apply, extractStridedSlice_apply _ _ _ _ (ix2 (⟨g.val, by omega⟩ : Fin 128) r) (fun a => match a with
      | ⟨0, _⟩ => (Nat.zero_add _).symm
      | ⟨1, _⟩ => (Nat.zero_add _).symm), transpose_ix2_apply]

end Cert.KernelIdeal.Hand
-- ==== Proof.Points.lean ====
module

public import proofs.«01_k».proof.Proof.Loop
public import proofs.«01_k».proof.Proof.HeadVal

@[expose] public section
noncomputable section
namespace Cert.KernelIdeal.Hand
open Cert.KernelIdeal Cert.KernelIdeal.Gen Idealize.ShloMosaic Idealize.ShloMosaic.TcCoe Idealize.SL.Sem
open Idealize.ShloMosaic.ValueIdx Cert.Spec
open scoped BigOperators

/-! # What one run of the body leaves in its outputs

The lemmas on the loops and on the heads, put together for the two cases: the first grid point, which scales the
weights, and the others, which find them scaled. -/

/-- The weights as the region finds them. -/
def wHb {c : Dev nD} (fh0 : HbBuf0 (F := Ideal) c hbM0_0) : S8192x2304.Idx → Elt Ideal .fp8e4m3 := View.read (Elt Ideal) (Memref.whole main_arg2).view fh0

/-- The angles of a position, from the offsets and the table of frequencies. -/
def angX (i : grid0.Coords) (x0 : S4.Idx → Elt Ideal .i32) (x4 : S64x128.Idx → Elt Ideal .f32) (r : Fin 256) (d : Fin 64) : EReal :=
  FloatOps.sitofp (F := Ideal) .f32 (posW i (x0 (ix1 (⟨(i 0).val / 24, by have : (i 0).val < 96 := (i 0).isLt; omega⟩ : Fin 4))) r) * x4 (ix2 d (0 : Fin 128))

theorem off103_val : ∀ i : grid0.Coords, (k0_off103 i) 0 = (i 0).val / 24 := by
  intro i
  revert i
  show ∀ i : ((a : Fin 1) → Fin ((![96] : Fin 1 → ℕ) a)), _
  decide +kernel

section
variable {c : Dev nD} {i : grid0.Coords} {arg1 : Memref sig .tc .smem S4 .i32} {harg1 : arg1.IsWhole} {arg2 : Memref sig .tc .smem S18x64 .f32} {harg2 : arg2.IsWhole} {arg3 : Memref sig .tc .vmem S256x8192 .bf16} {harg3 : arg3.IsWhole} {arg4 : Memref sig .tc .vmem S1x8192 .f32} {harg4 : arg4.IsWhole} {arg5 : Memref sig .tc .vmem S64x128 .f32} {harg5 : arg5.IsWhole} {arg7 : Memref sig .tc .vmem S1x2048x256 .bf16} {harg7 : arg7.IsWhole} {arg8 : Memref sig .tc .vmem S1x128x256 .bf16} {harg8 : arg8.IsWhole} {arg9 : Memref sig .tc .vmem S1x128x256 .bf16} {harg9 : arg9.IsWhole} {arg10 : Memref sig .tc .vmem S256x8192 .fp8e4m3} {harg10 : arg10.IsWhole} {arg11 : Memref sig .tc .vmem S1x64x256 .f32} {harg11 : arg11.IsWhole} {arg12 : Memref sig .tc .vmem S2304x8192 .bf16} {harg12 : arg12.IsWhole} {arg13 : Memref sig .tc .vmem S256x8192 .bf16} {harg13 : arg13.IsWhole} {arg14 : Memref sig .tc .vmem S128x2304 .fp8e4m3} {harg14 : arg14.IsWhole} {arg15 : Memref sig .tc .vmem S256x128 .f32} {harg15 : arg15.IsWhole} {hc0 : cond0_0 i}     {x0 : Vec Ideal S4 .i32} {x1 : Vec Ideal S18x64 .f32} {x2 : Vec Ideal S256x8192 .bf16} {x3 : Vec Ideal S1x8192 .f32} {x4 : Vec Ideal S64x128 .f32} {fh0 : HbBuf0 @@ c hbM0_0}

theorem angS_eq : angS i (View.readAt (Elt Ideal) arg1.view (Rect.unit (s := S4) (k0_off103 i) S1.size (k0_off103_inb i)).toLoadRect (harg1.unread x0) (Shape.Idx.first (by show 0 < S1.numel; decide)))
    (View.readAt (Elt Ideal) arg5.view (Rect.unit (s := S64x128) ![0, 0] S64x1.size inb_S64x128_S64x1_0_0).toLoadRect (harg5.unread x4)) = angX i x0 x4 := by
  funext r d
  unfold angS angX
  rw [Memref.IsWhole.readAt_unread, Memref.IsWhole.readAt_unread]
  refine congrArg₂ (· * ·) (congrArg (fun p => FloatOps.sitofp (F := Ideal) .f32 (posW i p r)) (congrArg x0 ?_)) (congrArg x4 ?_)
  · funext a
    apply Fin.ext
    match a with
    | ⟨0, _⟩ => exact (Nat.add_zero _).trans (off103_val i)
  · exact unit_ix2 (m0 := 64) (m1 := 1) _ _ d (0 : Fin 1) _ _ (Nat.zero_add _) rfl

theorem t1_wt (n : Fin 2304) (j : Fin 8192) :
    View.canon (Val := Elt Ideal) (pb_k0_t1 (F := Ideal) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 hc0 (harg2.unread x1) fh0 k0_t1_loop.trips) (ix2 n j) = wdeq x1 (wHb fh0) n j :=
  loop_wt arg2 harg2 x1 (Memref.whole main_arg2) arg14 i hc0 fh0 (fun n => (pb_k0_t1 (F := Ideal) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 hc0 (harg2.unread x1) fh0 n)) rfl
    (fun k => (pb_k0_t1_succ ..).trans (congrArg (· ++ _) (trip_wt ..))) n j

theorem wA_apply (n : Fin 3) (a : Fin 768) (k : Fin 8192) :
    (fun n : Fin 3 => arg12.view.readCov (pb_k0_t1 (F := Ideal) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 hc0 (harg2.unread x1) fh0 k0_t1_loop.trips) (Rect.unit (s := S2304x8192) ![768 * n.val, 0] S768x8192.size (inbW n)).toLoadRect) n (ix2 a k) = wdeq x1 (wHb fh0) (wrow n a) k := by
  show View.readCov _ _ _ _ = _
  rw [View.readCov_eq_canon']
  refine (congrArg (View.canon (Val := Elt Ideal) (pb_k0_t1 (F := Ideal) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 hc0 (harg2.unread x1) fh0 k0_t1_loop.trips)) ?_).trans (t1_wt _ k)
  exact unit_ix2 (m0 := 768) (m1 := 8192) _ (inbW n) a k _ _ rfl (Nat.zero_add _)

variable (hw : ∀ j, max (rowW x3 j) (-(rowW x3 j)) ≤ B 0x7F7F0000#32)
include hw

theorem t2_codes (r : Fin 256) (j : Fin 8192) :
    View.canon (Val := Elt Ideal) (pb_k0_t2 (F := Ideal) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).1 (ix2 r j) = code (rowX x2 r) (rowW x3) j :=
  loop_codes arg3 harg3 arg4 harg4 x2 x3 hw (fun n => (pb_k0_t2 (F := Ideal) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) n).1) rfl
    (fun k => (congrArg Prod.fst (pb_k0_t2_succ ..)).trans (congrArg (· ++ _) (trip_codes ..))) r j

theorem xa_apply (r : Fin 256) (j : Fin 8192) : (arg13.view.readCov (pb_k0_t2 (F := Ideal) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).2.1 (Rect.unit (s := S256x8192) ![0, 0] S256x8192.size inb_S256x8192_S256x8192_0_0).toLoadRect) (ix2 r j) = deq (rowX x2 r) (rowW x3) j := by
  rw [View.readCov_eq_canon']
  refine (congrArg (View.canon (Val := Elt Ideal) (pb_k0_t2 (F := Ideal) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).2.1) ?_).trans
    (loop_xa arg3 harg3 arg4 harg4 x2 x3 hw (fun n => (pb_k0_t2 (F := Ideal) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) n).2.1) rfl
      (fun k => (congrArg (Prod.fst ∘ Prod.snd) (pb_k0_t2_succ ..)).trans (congrArg (· ++ _) (trip_xa ..))) r j)
  exact unit_ix2 (m0 := 256) (m1 := 8192) _ _ r j _ _ (Nat.zero_add _) (Nat.zero_add _)

theorem packed_apply (r : Fin 256) (g : Fin 64) : (arg15.view.readCov (pb_k0_t2 (F := Ideal) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).2.2 (Rect.unit (s := S256x128) ![0, 0] S256x128.size inb_S256x128_S256x128_0_0).toLoadRect) (ix2 r (⟨g.val, by omega⟩ : Fin 128)) = scale (tmax (rowX x2 r) (rowW x3) g) := by
  rw [View.readCov_eq_canon']
  refine (congrArg (View.canon (Val := Elt Ideal) (pb_k0_t2 (F := Ideal) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) k0_t2_loop.trips).2.2) ?_).trans
    (loop_packed arg3 harg3 arg4 harg4 x2 x3 hw (fun n => (pb_k0_t2 (F := Ideal) Variants.none c none i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 arg15 harg15 cc0_scratch4 (harg3.unread x2) (harg4.unread x3) n).2.2) rfl
      (fun k => (congrArg (Prod.snd ∘ Prod.snd) (pb_k0_t2_succ ..)).trans (congrArg (· ++ _) (trip_packed ..))) r g)
  exact unit_ix2 (m0 := 256) (m1 := 128) _ _ r _ _ _ (Nat.zero_add _) (Nat.zero_add _)

theorem outA_codes (r : Fin 256) (j : Fin 8192) :
    out0_A_8 c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 fh0 (ix2 r j) = code (rowX x2 r) (rowW x3) j := by
  unfold out0_A_8
  rw [View.read_writes_junk_eq_canon, runA_codes]
  exact t2_codes hw r j

theorem outA_xs (g : Fin 64) (r : Fin 256) :
    out0_A_9 c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 fh0 (ix3 (0 : Fin 1) g r) = scale (tmax (rowX x2 r) (rowW x3) g) := by
  unfold out0_A_9
  rw [View.read_writes_junk_eq_canon, runA_xs]
  exact (canon_xs _ g r).trans (packed_apply hw r g)

theorem outA_v (n : Fin 2) (d : Fin 64) (r : Fin 256) :
    out0_A_7 c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 fh0 (ix3 (0 : Fin 1) (row2 n d) r) = ySum (wdeq x1 (wHb fh0)) (fun r => deq (rowX x2 r) (rowW x3)) (vrow n d) r := by
  unfold out0_A_7
  rw [View.read_writes_junk_eq_canon, runA_v]
  exact canon_v _ _ (wdeq x1 (wHb fh0)) (fun r => deq (rowX x2 r) (rowW x3)) wA_apply (xa_apply hw) n d r

theorem outA_k (n : Fin 2) (d : Fin 64) (r : Fin 256) :
    out0_A_6 c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 fh0 (ix3 (0 : Fin 1) (row2 n d) r) = rope (fun d => ySum (wdeq x1 (wHb fh0)) (fun r => deq (rowX x2 r) (rowW x3)) (krow n d) r) (angX i x0 x4 r) d := by
  unfold out0_A_6
  rw [View.read_writes_junk_eq_canon, runA_k]
  exact (canon_k _ _ (wdeq x1 (wHb fh0)) (fun r => deq (rowX x2 r) (rowW x3)) wA_apply (xa_apply hw) i _ _ n d r).trans (by rw [angS_eq])

theorem outA_q (n : Fin 32) (d : Fin 64) (r : Fin 256) :
    out0_A_5 c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 fh0 (ix3 (0 : Fin 1) (row32 n d) r) = rope (fun d => ySum (wdeq x1 (wHb fh0)) (fun r => deq (rowX x2 r) (rowW x3)) (qrow n d) r) (angX i x0 x4 r) d := by
  unfold out0_A_5
  rw [View.read_writes_junk_eq_canon, runA_q]
  exact (canon_q _ _ (wdeq x1 (wHb fh0)) (fun r => deq (rowX x2 r) (rowW x3)) wA_apply (xa_apply hw) i _ _ n d r).trans (by rw [angS_eq])

omit hw in
theorem outA_wt (n : Fin 2304) (j : Fin 8192) : sout0_A_0 c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 fh0 (ix2 n j) = wdeq x1 (wHb fh0) n j := by
  unfold sout0_A_0
  rw [View.read_writes_junk_eq_canon, runA_wt]
  exact t1_wt n j
end

section
variable {c : Dev nD} {i : grid0.Coords} {arg1 : Memref sig .tc .smem S4 .i32} {harg1 : arg1.IsWhole} {arg2 : Memref sig .tc .smem S18x64 .f32} {harg2 : arg2.IsWhole} {arg3 : Memref sig .tc .vmem S256x8192 .bf16} {harg3 : arg3.IsWhole} {arg4 : Memref sig .tc .vmem S1x8192 .f32} {harg4 : arg4.IsWhole} {arg5 : Memref sig .tc .vmem S64x128 .f32} {harg5 : arg5.IsWhole} {arg7 : Memref sig .tc .vmem S1x2048x256 .bf16} {harg7 : arg7.IsWhole} {arg8 : Memref sig .tc .vmem S1x128x256 .bf16} {harg8 : arg8.IsWhole} {arg9 : Memref sig .tc .vmem S1x128x256 .bf16} {harg9 : arg9.IsWhole} {arg10 : Memref sig .tc .vmem S256x8192 .fp8e4m3} {harg10 : arg10.IsWhole} {arg11 : Memref sig .tc .vmem S1x64x256 .f32} {harg11 : arg11.IsWhole} {arg12 : Memref sig .tc .vmem S2304x8192 .bf16} {harg12 : arg12.IsWhole} {arg13 : Memref sig .tc .vmem S256x8192 .bf16} {harg13 : arg13.IsWhole} {arg14 : Memref sig .tc .vmem S128x2304 .fp8e4m3} {harg14 : arg14.IsWhole} {arg15 : Memref sig .tc .vmem S256x128 .f32} {harg15 : arg15.IsWhole} {hc0 : ¬cond0_0 i}     {x0 : Vec Ideal S4 .i32} {x1 : Vec Ideal S18x64 .f32} {x2 : Vec Ideal S256x8192 .bf16} {x3 : Vec Ideal S1x8192 .f32} {x4 : Vec Ideal S64x128 .f32} {xs0 : Vec Ideal S2304x8192 .bf16} {fh0 : HbBuf0 @@ c hbM0_0}

theorem wB_apply (n : Fin 3) (a : Fin 768) (k : Fin 8192) :
    (fun n : Fin 3 => View.readAt (Elt Ideal) arg12.view (Rect.unit (s := S2304x8192) ![768 * n.val, 0] S768x8192.size (inbW n)).toLoadRect (harg12.unread xs0)) n (ix2 a k) = xs0 (ix2 (wrow n a) k) := by
  show View.readAt (Elt Ideal) _ _ _ _ = _
  rw [Memref.IsWhole.readAt_unread]
  exact congrArg xs0 (unit_ix2 (m0 := 768) (m1 := 8192) _ (inbW n) a k _ _ rfl (Nat.zero_add _))

variable (hw : ∀ j, max (rowW x3 j) (-(rowW x3 j)) ≤ B 0x7F7F0000#32)
include hw

theorem outB_codes (r : Fin 256) (j : Fin 8192) :
    out0_B_8 c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 xs0 fh0 (ix2 r j) = code (rowX x2 r) (rowW x3) j := by
  unfold out0_B_8
  rw [View.read_writes_junk_eq_canon, runB_codes]
  exact t2_codes hw r j

theorem outB_xs (g : Fin 64) (r : Fin 256) :
    out0_B_9 c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 xs0 fh0 (ix3 (0 : Fin 1) g r) = scale (tmax (rowX x2 r) (rowW x3) g) := by
  unfold out0_B_9
  rw [View.read_writes_junk_eq_canon, runB_xs]
  exact (canon_xs _ g r).trans (packed_apply hw r g)

theorem outB_v (n : Fin 2) (d : Fin 64) (r : Fin 256) :
    out0_B_7 c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 xs0 fh0 (ix3 (0 : Fin 1) (row2 n d) r) = ySum (fun n k => xs0 (ix2 n k)) (fun r => deq (rowX x2 r) (rowW x3)) (vrow n d) r := by
  unfold out0_B_7
  rw [View.read_writes_junk_eq_canon, runB_v]
  exact canon_v _ _ (fun n k => xs0 (ix2 n k)) (fun r => deq (rowX x2 r) (rowW x3)) wB_apply (xa_apply hw) n d r

theorem outB_k (n : Fin 2) (d : Fin 64) (r : Fin 256) :
    out0_B_6 c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 xs0 fh0 (ix3 (0 : Fin 1) (row2 n d) r) = rope (fun d => ySum (fun n k => xs0 (ix2 n k)) (fun r => deq (rowX x2 r) (rowW x3)) (krow n d) r) (angX i x0 x4 r) d := by
  unfold out0_B_6
  rw [View.read_writes_junk_eq_canon, runB_k]
  exact (canon_k _ _ (fun n k => xs0 (ix2 n k)) (fun r => deq (rowX x2 r) (rowW x3)) wB_apply (xa_apply hw) i _ _ n d r).trans (by rw [angS_eq])

theorem outB_q (n : Fin 32) (d : Fin 64) (r : Fin 256) :
    out0_B_5 c i arg1 harg1 arg2 harg2 arg3 harg3 arg4 harg4 arg5 harg5 arg7 harg7 arg8 harg8 arg9 harg9 arg10 harg10 arg11 harg11 arg12 harg12 arg13 harg13 arg14 harg14 arg15 harg15 hc0 x0 x1 x2 x3 x4 xs0 fh0 (ix3 (0 : Fin 1) (row32 n d) r) = rope (fun d => ySum (fun n k => xs0 (ix2 n k)) (fun r => deq (rowX x2 r) (rowW x3)) (qrow n d) r) (angX i x0 x4 r) d := by
  unfold out0_B_5
  rw [View.read_writes_junk_eq_canon, runB_q]
  exact (canon_q _ _ (fun n k => xs0 (ix2 n k)) (fun r => deq (rowX x2 r) (rowW x3)) wB_apply (xa_apply hw) i _ _ n d r).trans (by rw [angS_eq])

end

end Cert.KernelIdeal.Hand
-- ==== Proof.Blocks.lean ====
module

public import proofs.«01_k».proof.Proof.Points
public import Idealize.ShloMosaic.Lib.Pipeline.ValueKit.Geometry
public import Idealize.ShloMosaic.Lib.Claim

@[expose] public section
noncomputable section
namespace Cert.KernelIdeal.Hand
open Cert.KernelIdeal Cert.KernelIdeal.Gen Idealize.ShloMosaic Idealize.ShloMosaic.TcCoe Idealize.SL.Sem
open Idealize.ShloMosaic.ValueIdx Cert.Spec
open scoped BigOperators

/-! # The blocks that a grid point reads -/

variable (m : (ℓ : Loc nD τ sig) → Buf (Elt Ideal) ℓ) (c : Dev nD)

/-- The arguments. -/
def aX : S4x6144x8192.Idx → EReal := m ((c : Thread nD τ).loc main_arg0)
def aN (j : Fin 8192) : EReal := (m ((c : Thread nD τ).loc main_arg1) : S8192.Idx → EReal) (ix1 j)
def aW : S8192x2304.Idx → EReal := m ((c : Thread nD τ).loc main_arg2)
def aS : S64x18.Idx → EReal := m ((c : Thread nD τ).loc main_arg3)
def aO : S4.Idx → BitVec 32 := m ((c : Thread nD τ).loc main_arg4)

/-- The frequencies in the kernel's table. -/
def freq (d : Fin 64) : EReal := Ideal.ofBits .f32 (lit0 (S64x128.rowMajor (ix2 d (0 : Fin 128))))

/-- The batch of a grid point, and the position of a row of its block. -/
def bOf (t : Fin cfg0.N) : Fin 4 := ⟨t.val / 24, by have := lt_of_lt_of_eq t.isLt N_0; omega⟩
def pOf (t : Fin cfg0.N) (r : Fin 256) : Fin 6144 := ⟨256 * (t.val % 24) + r.val, by omega⟩

theorem idx0 : ∀ t : Fin cfg0.N, win0_0.index t = ![0] := (by decide +kernel : ∀ t : Fin grid0.N, win0_0.index t = ![0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val / 24, 0, t.val % 24] := (by decide +kernel : ∀ t : Fin grid0.N, win0_5.index t = ![t.val / 24, 0, t.val % 24])
theorem idx6 : ∀ t : Fin cfg0.N, win0_6.index t = ![t.val / 24, 0, t.val % 24] := (by decide +kernel : ∀ t : Fin grid0.N, win0_6.index t = ![t.val / 24, 0, t.val % 24])
theorem idx7 : ∀ t : Fin cfg0.N, win0_7.index t = ![t.val / 24, 0, t.val % 24] := (by decide +kernel : ∀ t : Fin grid0.N, win0_7.index t = ![t.val / 24, 0, t.val % 24])
theorem idx8 : ∀ t : Fin cfg0.N, win0_8.index t = ![t.val, 0] := (by decide +kernel : ∀ t : Fin grid0.N, win0_8.index t = ![t.val, 0])
theorem idx9 : ∀ t : Fin cfg0.N, win0_9.index t = ![t.val / 24, 0, t.val % 24] := (by decide +kernel : ∀ t : Fin grid0.N, win0_9.index t = ![t.val / 24, 0, t.val % 24])

theorem V_v0 : (V m c main_v0 : S18x64.Idx → EReal) = transpose S18x64 [1, 0] (aS m c) transposes_S64x18_S18x64_1_0 := by
  entry_read
  rfl
theorem V_v1 : (V m c main_v1 : S24576x8192.Idx → EReal) = shapeCast S24576x8192 (aX m c) shapeCasts_S4x6144x8192_S24576x8192 := by
  entry_read
  rfl
theorem V_v3 : (V m c main_v3 : S1x8192.Idx → EReal) = shapeCast S1x8192 (m ((c : Thread nD τ).loc main_arg1) : S8192.Idx → EReal) shapeCasts_S8192_S1x8192 := by
  entry_read
  rfl
theorem V_cst : (V m c main_cst : S64x128.Idx → EReal) = fun i => FloatOps.ofBits (F := Ideal) .f32 (lit0 (S64x128.rowMajor i)) := by
  show StableHlo.after (List.flatten [hostOps0]) _ _ = _
  unfold hostOps0
  simp only [List.flatten_cons, List.flatten_nil, List.append_nil]
  after_results
  rfl

theorem iblk0 (t : Fin cfg0.N) : iblk m c 0 t = aO m c := by
  funext y
  show (V m c main_arg4 : S4.Idx → BitVec 32) (((cfg0.win 0).blk t).view.emb y) = m ((c : Thread nD τ).loc main_arg4) y
  rw [V_main_arg4]
  refine congrArg (m ((c : Thread nD τ).loc main_arg4) : S4.Idx → BitVec 32) ?_
  funext a
  apply Fin.ext
  match a with
  | ⟨0, _⟩ => blk_simp [idx0]
theorem iblk1 (t : Fin cfg0.N) (n : Fin 18) (k : Fin 64) : iblk m c 1 t (ix2 n k) = aS m c (ix2 k n) := by
  refine Eq.trans (b := (V m c main_v0 : S18x64.Idx → EReal) (ix2 n k)) (congrArg (V m c main_v0 : S18x64.Idx → EReal) ?_) ?_
  · blk_ext [idx1]
  · rw [V_v0, transpose_ix2_apply]
theorem iblk2 (t : Fin cfg0.N) (r : Fin 256) (j : Fin 8192) : iblk m c 2 t (ix2 r j) = xrow (aX m c) (bOf t) (pOf t r) j := by
  have h24 := lt_of_lt_of_eq t.isLt N_0
  refine Eq.trans (b := (V m c main_v1 : S24576x8192.Idx → EReal) (ix2 (⟨256 * t.val + r.val, by omega⟩ : Fin 24576) j)) (congrArg (V m c main_v1 : S24576x8192.Idx → EReal) ?_) ?_
  · blk_ext [idx2]
    show t.val * 256 + r.val = 256 * t.val + r.val
    omega
  · rw [V_v1]
    refine shapeCast_apply _ _ _ (ix3 (bOf t) (pOf t r) j) ?_
    rw [Shape.rowMajor_val_three, Shape.rowMajor_val_two]
    show ((t.val / 24) * 6144 + (256 * (t.val % 24) + r.val)) * 8192 + j.val = (256 * t.val + r.val) * 8192 + j.val
    omega
theorem iblk3 (t : Fin cfg0.N) (j : Fin 8192) : iblk m c 3 t (ix2 (0 : Fin 1) j) = aN m c j := by
  refine Eq.trans (b := (V m c main_v3 : S1x8192.Idx → EReal) (ix2 (0 : Fin 1) j)) (congrArg (V m c main_v3 : S1x8192.Idx → EReal) ?_) ?_
  · blk_ext [idx3]
  · rw [V_v3, shapeCast_a_1a_apply]; rfl
theorem iblk4 (t : Fin cfg0.N) (d : Fin 64) : iblk m c 4 t (ix2 d (0 : Fin 128)) = freq d := by
  refine Eq.trans (b := (V m c main_cst : S64x128.Idx → EReal) (ix2 d (0 : Fin 128))) (congrArg (V m c main_cst : S64x128.Idx → EReal) ?_) ?_
  · blk_ext [idx4]
  · rw [V_cst]; rfl

theorem rowX_iblk (t : Fin cfg0.N) (r : Fin 256) : rowX (iblk m c 2 t) r = xrow (aX m c) (bOf t) (pOf t r) := funext fun j => iblk2 m c t r j

theorem rowW_iblk (t : Fin cfg0.N) : rowW (iblk m c 3 t) = aN m c := funext fun j => iblk3 m c t j

theorem coords0 : ∀ t : Fin cfg0.N, (grid0.coords t 0).val = t.val := (by decide +kernel : ∀ t : Fin grid0.N, (grid0.coords t 0).val = t.val)

theorem word_add (p : BitVec 32) (a r : ℕ) : p + BitVec.ofNat 32 a * 256#32 + BitVec.ofNat 32 r = p + BitVec.ofNat 32 (256 * a + r) := by
  rw [BitVec.ofNat_add, BitVec.ofNat_mul, BitVec.add_assoc, BitVec.mul_comm]

theorem angX_iblk (t : Fin cfg0.N) (r : Fin 256) :
    angX (grid0.coords t) (iblk m c 0 t) (iblk m c 4 t) r = angE (aO m c) freq (bOf t) (pOf t r) := by
  funext d
  unfold angX angE posW
  rw [iblk4, iblk0, word_add]
  refine congrArg (· * freq d) (congrArg (FloatOps.sitofp (F := Ideal) .f32) (congrArg₂ (· + ·) (congrArg (aO m c) (congrArg ix1 (Fin.ext ?_))) (congrArg (BitVec.ofNat 32) ?_)))
  · show (grid0.coords t 0).val / 24 = t.val / 24
    rw [coords0]
  · show 256 * ((grid0.coords t 0).val % 24) + r.val = 256 * (t.val % 24) + r.val
    rw [coords0]

theorem wdeq_iblk (t : Fin cfg0.N) : wdeq (iblk m c 1 t) (wHb (c := c) (V m c main_arg2)) = wdq (aW m c) (aS m c) := by
  funext n k
  unfold wdeq wdq
  rw [iblk1, V_main_arg2]
  rfl

/-! # What a grid point leaves -/

/-- From the first point on the scratch holds the scaled weights. -/
theorem scaled (n : ℕ) (hn : n < cfg0.N) (a : Fin 2304) (k : Fin 8192) :
    (outsAt0 m c n hn).2.2.2.2.2 (ix2 a k) = wdq (aW m c) (aS m c) a k := by
  induction n with
  | zero =>
    refine (congrArg (fun o => o.2.2.2.2.2 (ix2 a k)) (outsAt0_A m c ⟨0, hn⟩ (Nat.zero_mod _))).trans ((outA_wt a k).trans ?_)
    rw [wdeq_iblk]
  | succ n ih =>
    by_cases h0 : (n + 1) % 96 = 0
    · refine (congrArg (fun o => o.2.2.2.2.2 (ix2 a k)) (outsAt0_A m c ⟨n + 1, hn⟩ h0)).trans ((outA_wt a k).trans ?_)
      rw [wdeq_iblk]
    · exact (congrArg (fun o => o.2.2.2.2.2 (ix2 a k)) (outsAt0_B m c ⟨n + 1, hn⟩ h0)).trans (ih (Nat.lt_of_succ_lt hn))

variable (hN : ∀ j, max (aN m c j) (-(aN m c j)) ≤ B 0x7F7F0000#32)
include hN

theorem hw_iblk (t : Fin cfg0.N) (j : Fin 8192) : max (rowW (iblk m c 3 t) j) (-(rowW (iblk m c 3 t) j)) ≤ B 0x7F7F0000#32 := by
  rw [rowW_iblk]; exact hN j

theorem pt_codes (t : Fin cfg0.N) (r : Fin 256) (j : Fin 8192) :
    (outsAt0 m c t.val t.isLt).2.2.2.1 (ix2 r j) = resC (aX m c) (aN m c) (bOf t) (pOf t r) j := by
  unfold resC
  rw [← rowX_iblk, ← rowW_iblk m c t]
  by_cases h0 : t.val % 96 = 0
  · exact (congrArg (fun o => o.2.2.2.1 (ix2 r j)) (outsAt0_A m c t h0)).trans (outA_codes (hc0 := (hcond0_0 t).mpr h0) (x0 := iblk m c 0 t) (x1 := iblk m c 1 t) (x4 := iblk m c 4 t) (fh0 := V m c main_arg2) (hw_iblk m c hN t) r j)
  · exact (congrArg (fun o => o.2.2.2.1 (ix2 r j)) (outsAt0_B m c t h0)).trans (outB_codes (hc0 := fun h => h0 ((hcond0_0 t).mp h)) (x0 := iblk m c 0 t) (x1 := iblk m c 1 t) (x4 := iblk m c 4 t) (fh0 := V m c main_arg2) (hw_iblk m c hN t) r j)

theorem pt_xs (t : Fin cfg0.N) (g : Fin 64) (r : Fin 256) :
    (outsAt0 m c t.val t.isLt).2.2.2.2.1 (ix3 (0 : Fin 1) g r) = resS (aX m c) (aN m c) (bOf t) (pOf t r) g := by
  unfold resS
  rw [← rowX_iblk, ← rowW_iblk m c t]
  by_cases h0 : t.val % 96 = 0
  · exact (congrArg (fun o => o.2.2.2.2.1 (ix3 (0 : Fin 1) g r)) (outsAt0_A m c t h0)).trans (outA_xs (hc0 := (hcond0_0 t).mpr h0) (x0 := iblk m c 0 t) (x1 := iblk m c 1 t) (x4 := iblk m c 4 t) (fh0 := V m c main_arg2) (hw_iblk m c hN t) g r)
  · rw [outsAt0_B m c t h0]
    dsimp only
    exact outB_xs (hw_iblk m c hN t) g r

omit hN in
/-- The product at a point, from the weights as the scratch holds them. -/
theorem ySum_iblk (t : Fin cfg0.N) (Wt : Fin 2304 → Fin 8192 → EReal) (h : Wt = wdq (aW m c) (aS m c)) (n : Fin 2304) (r : Fin 256) :
    ySum Wt (fun r => deq (rowX (iblk m c 2 t) r) (rowW (iblk m c 3 t))) n r = prodE (aX m c) (aN m c) (aW m c) (aS m c) n (bOf t) (pOf t r) := by
  unfold ySum prodE
  refine Finset.sum_congr rfl fun k _ => ?_
  show Wt n k * deq (rowX (iblk m c 2 t) r) (rowW (iblk m c 3 t)) k = _
  rw [h, rowX_iblk, rowW_iblk]

theorem pt_v (t : Fin cfg0.N) (n : Fin 2) (d : Fin 64) (r : Fin 256) :
    (outsAt0 m c t.val t.isLt).2.2.1 (ix3 (0 : Fin 1) (row2 n d) r) = resV (aX m c) (aN m c) (aW m c) (aS m c) (bOf t) (pOf t r) n d := by
  by_cases h0 : t.val % 96 = 0
  · exact (congrArg (fun o => o.2.2.1 (ix3 (0 : Fin 1) (row2 n d) r)) (outsAt0_A m c t h0)).trans
      ((outA_v (hc0 := (hcond0_0 t).mpr h0) (x0 := iblk m c 0 t) (x1 := iblk m c 1 t) (x4 := iblk m c 4 t) (fh0 := V m c main_arg2) (hw_iblk m c hN t) n d r).trans (ySum_iblk m c t _ (wdeq_iblk m c t) _ r))
  · exact (congrArg (fun o => o.2.2.1 (ix3 (0 : Fin 1) (row2 n d) r)) (outsAt0_B m c t h0)).trans
      ((outB_v (hc0 := fun h => h0 ((hcond0_0 t).mp h)) (x0 := iblk m c 0 t) (x1 := iblk m c 1 t) (x4 := iblk m c 4 t) (fh0 := V m c main_arg2) (hw_iblk m c hN t) n d r).trans (ySum_iblk m c t _ (funext fun a => funext fun k => scaled m c _ _ a k) _ r))

theorem pt_k (t : Fin cfg0.N) (n : Fin 2) (d : Fin 64) (r : Fin 256) :
    (outsAt0 m c t.val t.isLt).2.1 (ix3 (0 : Fin 1) (row2 n d) r) = resK (aX m c) (aN m c) (aW m c) (aS m c) (aO m c) freq (bOf t) (pOf t r) n d := by
  unfold resK
  rw [← angX_iblk]
  by_cases h0 : t.val % 96 = 0
  · exact (congrArg (fun o => o.2.1 (ix3 (0 : Fin 1) (row2 n d) r)) (outsAt0_A m c t h0)).trans
      ((outA_k (hc0 := (hcond0_0 t).mpr h0) (x0 := iblk m c 0 t) (x1 := iblk m c 1 t) (x4 := iblk m c 4 t) (fh0 := V m c main_arg2) (hw_iblk m c hN t) n d r).trans (congrArg (fun y => rope y _ d) (funext fun d => ySum_iblk m c t _ (wdeq_iblk m c t) _ r)))
  · exact (congrArg (fun o => o.2.1 (ix3 (0 : Fin 1) (row2 n d) r)) (outsAt0_B m c t h0)).trans
      ((outB_k (hc0 := fun h => h0 ((hcond0_0 t).mp h)) (x0 := iblk m c 0 t) (x1 := iblk m c 1 t) (x4 := iblk m c 4 t) (fh0 := V m c main_arg2) (hw_iblk m c hN t) n d r).trans (congrArg (fun y => rope y _ d) (funext fun d => ySum_iblk m c t _ (funext fun a => funext fun k => scaled m c _ _ a k) _ r)))

theorem pt_q (t : Fin cfg0.N) (n : Fin 32) (d : Fin 64) (r : Fin 256) :
    (outsAt0 m c t.val t.isLt).1 (ix3 (0 : Fin 1) (row32 n d) r) = resQ (aX m c) (aN m c) (aW m c) (aS m c) (aO m c) freq (bOf t) (pOf t r) n d := by
  unfold resQ
  rw [← angX_iblk]
  by_cases h0 : t.val % 96 = 0
  · exact (congrArg (fun o => o.1 (ix3 (0 : Fin 1) (row32 n d) r)) (outsAt0_A m c t h0)).trans
      ((outA_q (hc0 := (hcond0_0 t).mpr h0) (x0 := iblk m c 0 t) (x1 := iblk m c 1 t) (x4 := iblk m c 4 t) (fh0 := V m c main_arg2) (hw_iblk m c hN t) n d r).trans (congrArg (fun y => rope y _ d) (funext fun d => ySum_iblk m c t _ (wdeq_iblk m c t) _ r)))
  · exact (congrArg (fun o => o.1 (ix3 (0 : Fin 1) (row32 n d) r)) (outsAt0_B m c t h0)).trans
      ((outB_q (hc0 := fun h => h0 ((hcond0_0 t).mp h)) (x0 := iblk m c 0 t) (x1 := iblk m c 1 t) (x4 := iblk m c 4 t) (fh0 := V m c main_arg2) (hw_iblk m c hN t) n d r).trans (congrArg (fun y => rope y _ d) (funext fun d => ySum_iblk m c t _ (funext fun a => funext fun k => scaled m c _ _ a k) _ r)))

end Cert.KernelIdeal.Hand
-- ==== Proof.Arrays.lean ====
module

public import proofs.«01_k».proof.Proof.Blocks

@[expose] public section
noncomputable section
namespace Cert.KernelIdeal.Hand
open Cert.KernelIdeal Cert.KernelIdeal.Gen Idealize.ShloMosaic Idealize.ShloMosaic.TcCoe Idealize.SL.Sem
open Idealize.ShloMosaic.ValueIdx Cert.Spec
open scoped BigOperators

/-! # The five arrays after the region -/

variable (m : (ℓ : Loc nD τ sig) → Buf (Elt Ideal) ℓ) (c : Dev nD)

/-- The arrays as the region lays them out: the heads' rows before the positions. -/
def gQ (y : S4x2048x6144.Idx) : EReal :=
  resQ (aX m c) (aN m c) (aW m c) (aS m c) (aO m c) freq (y 0) (y 2)
    ⟨(y 1).val / 64, by have : (y 1).val < 2048 := (y 1).isLt; omega⟩ ⟨(y 1).val % 64, by omega⟩
def gK (y : S4x128x6144.Idx) : EReal :=
  resK (aX m c) (aN m c) (aW m c) (aS m c) (aO m c) freq (y 0) (y 2)
    ⟨(y 1).val / 64, by have : (y 1).val < 128 := (y 1).isLt; omega⟩ ⟨(y 1).val % 64, by omega⟩
def gV (y : S4x128x6144.Idx) : EReal :=
  resV (aX m c) (aN m c) (aW m c) (aS m c) (y 0) (y 2)
    ⟨(y 1).val / 64, by have : (y 1).val < 128 := (y 1).isLt; omega⟩ ⟨(y 1).val % 64, by omega⟩
def gC (y : S24576x8192.Idx) : EReal :=
  resC (aX m c) (aN m c) ⟨(y 0).val / 6144, by have : (y 0).val < 24576 := (y 0).isLt; omega⟩ ⟨(y 0).val % 6144, by omega⟩ (y 1)
def gS (y : S4x64x6144.Idx) : EReal := resS (aX m c) (aN m c) (y 0) (y 2) (y 1)

/-! Where a block's entries lie in the array. -/

theorem emb5 (t : Fin cfg0.N) (a : Fin 2048) (r : Fin 256) : (win0_5.blk t).view.emb (ix3 (0 : Fin 1) a r) = ix3 (bOf t) a (pOf t r) := by
  blk_ext [idx5]
  · rfl
  · show t.val % 24 * 256 + r.val = 256 * (t.val % 24) + r.val
    omega

theorem emb6 (t : Fin cfg0.N) (a : Fin 128) (r : Fin 256) : (win0_6.blk t).view.emb (ix3 (0 : Fin 1) a r) = ix3 (bOf t) a (pOf t r) := by
  blk_ext [idx6]
  · rfl
  · show t.val % 24 * 256 + r.val = 256 * (t.val % 24) + r.val
    omega

theorem emb7 (t : Fin cfg0.N) (a : Fin 128) (r : Fin 256) : (win0_7.blk t).view.emb (ix3 (0 : Fin 1) a r) = ix3 (bOf t) a (pOf t r) := by
  blk_ext [idx7]
  · rfl
  · show t.val % 24 * 256 + r.val = 256 * (t.val % 24) + r.val
    omega

theorem emb9 (t : Fin cfg0.N) (a : Fin 64) (r : Fin 256) : (win0_9.blk t).view.emb (ix3 (0 : Fin 1) a r) = ix3 (bOf t) a (pOf t r) := by
  blk_ext [idx9]
  · rfl
  · show t.val % 24 * 256 + r.val = 256 * (t.val % 24) + r.val
    omega

theorem emb8 (t : Fin cfg0.N) (r : Fin 256) (j : Fin 8192) (h : 256 * t.val + r.val < 24576) :
    (win0_8.blk t).view.emb (ix2 r j) = ix2 (⟨256 * t.val + r.val, h⟩ : Fin 24576) j := by
  blk_ext [idx8]
  show t.val * 256 + r.val = 256 * t.val + r.val
  omega

variable (hN : ∀ j, max (aN m c j) (-(aN m c j)) ≤ B 0x7F7F0000#32)
include hN

theorem arr_codes : (dats m 0 c).arrAt 8 cfg0.N = gC m c := by
  refine (dats m 0 c).arrAt_eq_of_covers 8 _ (by decide +kernel) fun t _ y => ?_
  blk_simp
  rw [after0_8]
  obtain ⟨r, j, rfl⟩ : ∃ (r : Fin 256) (j : Fin 8192), y = ix2 r j := ⟨y 0, y 1, eq_ix2 y⟩
  have ht := lt_of_lt_of_eq t.isLt N_0
  rw [emb8 t r j (by omega)]
  refine (pt_codes m c hN t r j).trans ?_
  refine congrArg₂ (fun b p => resC (aX m c) (aN m c) b p j) (Fin.ext ?_) (Fin.ext ?_)
  · show t.val / 24 = (256 * t.val + r.val) / 6144; omega
  · show 256 * (t.val % 24) + r.val = (256 * t.val + r.val) % 6144; omega

theorem arr_xs : (dats m 0 c).arrAt 9 cfg0.N = gS m c := by
  refine (dats m 0 c).arrAt_eq_of_covers 9 _ (by decide +kernel) fun t _ y => ?_
  blk_simp
  rw [after0_9]
  obtain ⟨u, g, r, rfl⟩ : ∃ (u : Fin 1) (g : Fin 64) (r : Fin 256), y = ix3 u g r := ⟨y 0, y 1, y 2, eq_ix3 y⟩
  obtain rfl : u = 0 := Subsingleton.elim _ _
  rw [emb9 t g r]
  exact pt_xs m c hN t g r

theorem arr_v : (dats m 0 c).arrAt 7 cfg0.N = gV m c := by
  refine (dats m 0 c).arrAt_eq_of_covers 7 _ (by decide +kernel) fun t _ y => ?_
  blk_simp
  rw [after0_7]
  obtain ⟨u, a, r, rfl⟩ : ∃ (u : Fin 1) (a : Fin 128) (r : Fin 256), y = ix3 u a r := ⟨y 0, y 1, y 2, eq_ix3 y⟩
  obtain rfl : u = 0 := Subsingleton.elim _ _
  rw [emb7 t a r]
  refine Eq.trans ?_ (pt_v m c hN t ⟨a.val / 64, by omega⟩ ⟨a.val % 64, by omega⟩ r)
  exact congrArg (fun a => (outsAt0 m c t.val t.isLt).2.2.1 (ix3 (0 : Fin 1) a r)) (Fin.ext (by show a.val = 64 * (a.val / 64) + a.val % 64; omega))

theorem arr_k : (dats m 0 c).arrAt 6 cfg0.N = gK m c := by
  refine (dats m 0 c).arrAt_eq_of_covers 6 _ (by decide +kernel) fun t _ y => ?_
  blk_simp
  rw [after0_6]
  obtain ⟨u, a, r, rfl⟩ : ∃ (u : Fin 1) (a : Fin 128) (r : Fin 256), y = ix3 u a r := ⟨y 0, y 1, y 2, eq_ix3 y⟩
  obtain rfl : u = 0 := Subsingleton.elim _ _
  rw [emb6 t a r]
  refine Eq.trans ?_ (pt_k m c hN t ⟨a.val / 64, by omega⟩ ⟨a.val % 64, by omega⟩ r)
  exact congrArg (fun a => (outsAt0 m c t.val t.isLt).2.1 (ix3 (0 : Fin 1) a r)) (Fin.ext (by show a.val = 64 * (a.val / 64) + a.val % 64; omega))

theorem arr_q : (dats m 0 c).arrAt 5 cfg0.N = gQ m c := by
  refine (dats m 0 c).arrAt_eq_of_covers 5 _ (by decide +kernel) fun t _ y => ?_
  blk_simp
  rw [after0_5]
  obtain ⟨u, a, r, rfl⟩ : ∃ (u : Fin 1) (a : Fin 2048) (r : Fin 256), y = ix3 u a r := ⟨y 0, y 1, y 2, eq_ix3 y⟩
  obtain rfl : u = 0 := Subsingleton.elim _ _
  rw [emb5 t a r]
  refine Eq.trans ?_ (pt_q m c hN t ⟨a.val / 64, by omega⟩ ⟨a.val % 64, by omega⟩ r)
  exact congrArg (fun a => (outsAt0 m c t.val t.isLt).1 (ix3 (0 : Fin 1) a r)) (Fin.ext (by show a.val = 64 * (a.val / 64) + a.val % 64; omega))

omit hN in
theorem shapeCast_heads {N H : ℕ} (hN : N = H * 64) (x : (⟨3, ![4, N, 6144]⟩ : Shape).Idx → EReal) (h : (⟨3, ![4, N, 6144]⟩ : Shape).ShapeCasts ⟨4, ![4, H, 64, 6144]⟩)
    (b : Fin 4) (n : Fin H) (d : Fin 64) (p : Fin 6144) (hl : 64 * n.val + d.val < N) :
    shapeCast ⟨4, ![4, H, 64, 6144]⟩ x h (ix4 b n d p) = x (ix3 b (⟨64 * n.val + d.val, hl⟩ : Fin N) p) := by
  refine shapeCast_apply _ _ _ _ ?_
  rw [Shape.rowMajor_val_three, Shape.rowMajor_val_four]
  show (b.val * N + (64 * n.val + d.val)) * 6144 + p.val = ((b.val * H + n.val) * 64 + d.val) * 6144 + p.val
  rw [hN, Nat.add_mul (b.val * H), Nat.mul_assoc b.val H 64, Nat.mul_comm n.val 64]
  omega

theorem tail_v6 : Pipeline.afterTail₀ cfgs (dats m) 0 (V0 m) [hostOps1] c main_v6
    = (fun y : S4x6144x32x64.Idx => resQ (aX m c) (aN m c) (aW m c) (aS m c) (aO m c) freq (y 0) (y 1) (y 2) (y 3)) := by
  unfold Pipeline.afterTail₀ hostOps1
  simp only [List.flatten_cons, List.flatten_nil, List.append_nil]
  after_results
  refine (congrArg (fun A => transpose S4x6144x32x64 [0, 3, 1, 2] (shapeCast S4x32x64x6144 A shapeCasts_S4x2048x6144_S4x32x64x6144) transposes_S4x32x64x6144_S4x6144x32x64_0_3_1_2)
    ((Pipeline.withArrays_arr spec0 (by decide) c _ _ 5).trans (arr_q m c hN))).trans ?_
  funext y
  obtain ⟨b, p, n, d, rfl⟩ : ∃ (b : Fin 4) (p : Fin 6144) (n : Fin 32) (d : Fin 64), y = ix4 b p n d := ⟨y 0, y 1, y 2, y 3, eq_ix4 y⟩
  have hl : 64 * n.val + d.val < 2048 := by omega
  refine Eq.trans (transpose_apply _ _ _ _ (ix4 b n d p) fun i => by fin_cases i <;> rfl) ?_
  rw [shapeCast_heads (by rfl) (gQ m c) _ b n d p hl]
  refine congrArg₂ (fun n d => resQ (aX m c) (aN m c) (aW m c) (aS m c) (aO m c) freq b p n d) (Fin.ext ?_) (Fin.ext ?_)
  · show (64 * n.val + d.val) / 64 = n.val; omega
  · show (64 * n.val + d.val) % 64 = d.val; omega

theorem tail_v8 : Pipeline.afterTail₀ cfgs (dats m) 0 (V0 m) [hostOps1] c main_v8
    = (fun y : S4x6144x2x64.Idx => resK (aX m c) (aN m c) (aW m c) (aS m c) (aO m c) freq (y 0) (y 1) (y 2) (y 3)) := by
  unfold Pipeline.afterTail₀ hostOps1
  simp only [List.flatten_cons, List.flatten_nil, List.append_nil]
  after_results
  refine (congrArg (fun A => transpose S4x6144x2x64 [0, 3, 1, 2] (shapeCast S4x2x64x6144 A shapeCasts_S4x128x6144_S4x2x64x6144) transposes_S4x2x64x6144_S4x6144x2x64_0_3_1_2)
    ((Pipeline.withArrays_arr spec0 (by decide) c _ _ 6).trans (arr_k m c hN))).trans ?_
  funext y
  obtain ⟨b, p, n, d, rfl⟩ : ∃ (b : Fin 4) (p : Fin 6144) (n : Fin 2) (d : Fin 64), y = ix4 b p n d := ⟨y 0, y 1, y 2, y 3, eq_ix4 y⟩
  have hl : 64 * n.val + d.val < 128 := by omega
  refine Eq.trans (transpose_apply _ _ _ _ (ix4 b n d p) fun i => by fin_cases i <;> rfl) ?_
  rw [shapeCast_heads (by rfl) (gK m c) _ b n d p hl]
  refine congrArg₂ (fun n d => resK (aX m c) (aN m c) (aW m c) (aS m c) (aO m c) freq b p n d) (Fin.ext ?_) (Fin.ext ?_)
  · show (64 * n.val + d.val) / 64 = n.val; omega
  · show (64 * n.val + d.val) % 64 = d.val; omega

theorem tail_v10 : Pipeline.afterTail₀ cfgs (dats m) 0 (V0 m) [hostOps1] c main_v10
    = (fun y : S4x6144x2x64.Idx => resV (aX m c) (aN m c) (aW m c) (aS m c) (y 0) (y 1) (y 2) (y 3)) := by
  unfold Pipeline.afterTail₀ hostOps1
  simp only [List.flatten_cons, List.flatten_nil, List.append_nil]
  after_results
  refine (congrArg (fun A => transpose S4x6144x2x64 [0, 3, 1, 2] (shapeCast S4x2x64x6144 A shapeCasts_S4x128x6144_S4x2x64x6144) transposes_S4x2x64x6144_S4x6144x2x64_0_3_1_2)
    ((Pipeline.withArrays_arr spec0 (by decide) c _ _ 7).trans (arr_v m c hN))).trans ?_
  funext y
  obtain ⟨b, p, n, d, rfl⟩ : ∃ (b : Fin 4) (p : Fin 6144) (n : Fin 2) (d : Fin 64), y = ix4 b p n d := ⟨y 0, y 1, y 2, y 3, eq_ix4 y⟩
  have hl : 64 * n.val + d.val < 128 := by omega
  refine Eq.trans (transpose_apply _ _ _ _ (ix4 b n d p) fun i => by fin_cases i <;> rfl) ?_
  rw [shapeCast_heads (by rfl) (gV m c) _ b n d p hl]
  refine congrArg₂ (fun n d => resV (aX m c) (aN m c) (aW m c) (aS m c) b p n d) (Fin.ext ?_) (Fin.ext ?_)
  · show (64 * n.val + d.val) / 64 = n.val; omega
  · show (64 * n.val + d.val) % 64 = d.val; omega

theorem tail_v11 : Pipeline.afterTail₀ cfgs (dats m) 0 (V0 m) [hostOps1] c main_v11
    = (fun y : S4x6144x8192.Idx => resC (aX m c) (aN m c) (y 0) (y 1) (y 2)) := by
  unfold Pipeline.afterTail₀ hostOps1
  simp only [List.flatten_cons, List.flatten_nil, List.append_nil]
  after_results
  refine (congrArg (fun A => shapeCast S4x6144x8192 A shapeCasts_S24576x8192_S4x6144x8192)
    ((Pipeline.withArrays_arr spec0 (by decide) c _ _ 8).trans (arr_codes m c hN))).trans ?_
  funext y
  obtain ⟨b, p, j, rfl⟩ : ∃ (b : Fin 4) (p : Fin 6144) (j : Fin 8192), y = ix3 b p j := ⟨y 0, y 1, y 2, eq_ix3 y⟩
  have hl : 6144 * b.val + p.val < 24576 := by omega
  refine (shapeCast_apply _ _ _ (ix2 (⟨6144 * b.val + p.val, hl⟩ : Fin 24576) j) ?_).trans ?_
  · rw [Shape.rowMajor_val_three, Shape.rowMajor_val_two]
    show (6144 * b.val + p.val) * 8192 + j.val = (b.val * 6144 + p.val) * 8192 + j.val
    omega
  refine congrArg₂ (fun b p => resC (aX m c) (aN m c) b p j) (Fin.ext ?_) (Fin.ext ?_)
  · show (6144 * b.val + p.val) / 6144 = b.val; omega
  · show (6144 * b.val + p.val) % 6144 = p.val; omega

theorem tail_v12 : Pipeline.afterTail₀ cfgs (dats m) 0 (V0 m) [hostOps1] c main_v12
    = (fun y : S4x6144x64.Idx => resS (aX m c) (aN m c) (y 0) (y 1) (y 2)) := by
  unfold Pipeline.afterTail₀ hostOps1
  simp only [List.flatten_cons, List.flatten_nil, List.append_nil]
  after_results
  refine (congrArg (fun A => transpose S4x6144x64 [0, 2, 1] A transposes_S4x64x6144_S4x6144x64_0_2_1)
    ((Pipeline.withArrays_arr spec0 (by decide) c _ _ 9).trans (arr_xs m c hN))).trans ?_
  funext y
  obtain ⟨b, p, g, rfl⟩ : ∃ (b : Fin 4) (p : Fin 6144) (g : Fin 64), y = ix3 b p g := ⟨y 0, y 1, y 2, eq_ix3 y⟩
  exact transpose_apply _ _ _ _ (ix3 b g p) fun i => by fin_cases i <;> rfl

omit hN in
/-- The kernel's run: each result is what its entries say, and the arguments end unchanged. -/
theorem run (ρ : Dev nD → PrngReg) (hN : ∀ c j, max (aN m c j) (-(aN m c j)) ≤ B 0x7F7F0000#32) :
    θ_run (defs (F := Ideal)) (onTc (τ := τ) (main (F := Ideal))) ⟨m, fun _ => 0, ρ⟩ (fun r => ∀ c : Dev nD,
      r.2.mem ((c.tc : Thread nD τ).loc main_v6) = (fun y : S4x6144x32x64.Idx => resQ (aX m c) (aN m c) (aW m c) (aS m c) (aO m c) freq (y 0) (y 1) (y 2) (y 3))
      ∧ r.2.mem ((c.tc : Thread nD τ).loc main_v8) = (fun y : S4x6144x2x64.Idx => resK (aX m c) (aN m c) (aW m c) (aS m c) (aO m c) freq (y 0) (y 1) (y 2) (y 3))
      ∧ r.2.mem ((c.tc : Thread nD τ).loc main_v10) = (fun y : S4x6144x2x64.Idx => resV (aX m c) (aN m c) (aW m c) (aS m c) (y 0) (y 1) (y 2) (y 3))
      ∧ r.2.mem ((c.tc : Thread nD τ).loc main_v11) = (fun y : S4x6144x8192.Idx => resC (aX m c) (aN m c) (y 0) (y 1) (y 2))
      ∧ r.2.mem ((c.tc : Thread nD τ).loc main_v12) = (fun y : S4x6144x64.Idx => resS (aX m c) (aN m c) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  run_from (run_main (F := Ideal) m ρ)
  · exact tail_v6 m c (hN c)
  · exact tail_v8 m c (hN c)
  · exact tail_v10 m c (hN c)
  · exact tail_v11 m c (hN c)
  · exact tail_v12 m c (hN c)
  all_goals first | exact W_main_arg0 m (dats m) c | exact W_main_arg1 m (dats m) c | exact W_main_arg2 m (dats m) c | exact W_main_arg3 m (dats m) c | exact W_main_arg4 m (dats m) c

end Cert.KernelIdeal.Hand
-- ==== Proof.RefHost.lean ====
module

public import proofs.«01_k».proof.Proof.Gen.ReferenceIdeal.Frame
public import proofs.«01_k».proof.Proof.Result
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.IdealHost
public import Idealize.ShloMosaic.Lib.KernelVsHost

@[expose] public section
noncomputable section
namespace Cert.ReferenceIdeal.Hand
open Cert.ReferenceIdeal Cert.ReferenceIdeal.Gen Idealize.ShloMosaic Idealize.ShloMosaic.TcCoe Idealize.SL.Sem
open Idealize.ShloMosaic.ValueIdx Cert.Spec
open scoped BigOperators

/-! # The reference's arrays before its casts

Each array as the host computes it from earlier ones, and its entries over the extended reals. -/

section
variable (x : FVec Ideal S4x6144x8192 .bf16) (w : FVec Ideal S8192 .bf16)

/-- The reciprocal root mean squares. -/
def tRinv : FVec Ideal S4x6144x1 .f32 :=
  Host.rsqrt (addf (Host.divf (broadcastInDim S4x6144x1 ![0, 1] bcast_S4x6144_S4x6144x1_0_1
      (Host.reduceAdd (mulf (extf .f32 x bitsLt_bf16_f32) (extf .f32 x bitsLt_bf16_f32)) (constant S_ .f32 0x00000000#32) reducesTo_S4x6144x8192_S4x6144_d2 h_S_))
    (broadcastInDim S4x6144x1 ![] bcast_S_S4x6144x1 (constant S_ .f32 0x46000000#32)))
    (broadcastInDim S4x6144x1 ![] bcast_S_S4x6144x1 (constant S_ .f32 0x358637BD#32)))

/-- The normalised rows. -/
def tNrm : FVec Ideal S4x6144x8192 .f32 :=
  mulf (mulf (extf .f32 x bitsLt_bf16_f32) (broadcastInDim S4x6144x8192 ![0, 1, 2] bcast_S4x6144x1_S4x6144x8192_0_1_2 (tRinv x)))
    (broadcastInDim S4x6144x8192 ![0, 1, 2] bcast_S1x1x8192_S4x6144x8192_0_1_2 (broadcastInDim S1x1x8192 ![2] bcast_S8192_S1x1x8192_2 (extf .f32 w bitsLt_bf16_f32)))

/-- The normalised rows by groups. -/
def tGrp : FVec Ideal S4x6144x64x128 .f32 := shapeCast S4x6144x64x128 (tNrm x w) shapeCasts_S4x6144x8192_S4x6144x64x128

end

/-- The groups' greatest magnitudes over 448. -/
def tMax (h : FVec Ideal S4x6144x64x128 .f32) : FVec Ideal S4x6144x64 .f32 :=
  mulf (Host.reduce FloatOps.maximumf (Host.absf h) (constant S_ .f32 0xFF800000#32) reducesTo_S4x6144x64x128_S4x6144x64_d3 h_S_)
    (broadcastInDim S4x6144x64 ![] bcast_S_S4x6144x64 (constant S_ .f32 0x3B124925#32))

/-- The scales' exponents. -/
def tExpo (t : FVec Ideal S4x6144x64 .f32) : FVec Ideal S4x6144x64 .f32 :=
  select (cmpf .olt t (broadcastInDim S4x6144x64 ![] bcast_S_S4x6144x64 (constant S_ .f32 0x00800000#32)))
    (broadcastInDim S4x6144x64 ![] bcast_S_S4x6144x64 (constant S_ .f32 0x00000000#32))
    (addf (Host.floor (Host.divf (Host.log t) (broadcastInDim S4x6144x64 ![] bcast_S_S4x6144x64 (Host.log (constant S_ .f32 0x40000000#32)))))
      (broadcastInDim S4x6144x64 ![] bcast_S_S4x6144x64 (constant S_ .f32 0x3F800000#32)))

/-- The scales. -/
def tScale (e : FVec Ideal S4x6144x64 .f32) : FVec Ideal S4x6144x64 .f32 :=
  Host.powf (broadcastInDim S4x6144x64 ![] bcast_S_S4x6144x64 (constant S_ .f32 0x40000000#32)) e

/-- The codes, before they are cast. -/
def tCode (h : FVec Ideal S4x6144x64x128 .f32) (e : FVec Ideal S4x6144x64 .f32) : FVec Ideal S4x6144x8192 .f32 :=
  shapeCast S4x6144x8192
    (minimumf (maximumf (mulf h (broadcastInDim S4x6144x64x128 ![0, 1, 2, 3] bcast_S4x6144x64x1_S4x6144x64x128_0_1_2_3
        (broadcastInDim S4x6144x64x1 ![0, 1, 2] bcast_S4x6144x64_S4x6144x64x1_0_1_2 (tScale (Host.negf e)))))
      (broadcastInDim S4x6144x64x128 ![] bcast_S_S4x6144x64x128 (constant S_ .f32 0xC3E00000#32)))
      (broadcastInDim S4x6144x64x128 ![] bcast_S_S4x6144x64x128 (constant S_ .f32 0x43E00000#32)))
    shapeCasts_S4x6144x64x128_S4x6144x8192

/-! ## Their entries -/

theorem bc_const {T : Shape} (h : S_.BroadcastsInDim T ![]) (b : BitVec 32) (i : T.Idx) :
    broadcastInDim T ![] h (constant (F := Ideal) S_ .f32 b) i = B b := rfl

section
variable {S : Shape} (u v : FVec Ideal S .f32) (i : S.Idx)
theorem rsqrt_at : Host.rsqrt u i = Ideal.rsqrt (u i) := rfl
theorem log_at : Host.log u i = Ideal.log (u i) := rfl
theorem floor_at : Host.floor u i = Ideal.liftRound Int.floor (u i) := rfl
theorem neg_at : Host.negf u i = -(u i : EReal) := rfl
theorem abs_at : Host.absf u i = max (u i : EReal) (-(u i : EReal)) := rfl
theorem div_at : Host.divf u v i = Ideal.div (u i) (v i) := rfl
theorem pow_at : Host.powf u v i = Ideal.pow (u i) (v i) := rfl
theorem add_at : addf u v i = (u i : EReal) + (v i : EReal) := rfl
theorem mul_at : mulf u v i = (u i : EReal) * (v i : EReal) := rfl
theorem max_at : maximumf u v i = max (u i : EReal) (v i : EReal) := rfl
theorem min_at : minimumf u v i = min (u i : EReal) (v i : EReal) := rfl
theorem lt_at : cmpf .olt u v i = BitVec.ofBool (decide ((u i : EReal) < (v i : EReal))) := rfl
end

theorem ext_at {S : Shape} (u : FVec Ideal S .bf16) (i : S.Idx) : extf .f32 u bitsLt_bf16_f32 i = u i := rfl

/-- The norm's weights. -/
def wf (w : FVec Ideal S8192 .bf16) (j : Fin 8192) : EReal := w (ix1 j)

section
variable (x : FVec Ideal S4x6144x8192 .bf16) (w : FVec Ideal S8192 .bf16)

theorem sum_apply (v : FVec Ideal S4x6144x8192 .f32) (b : Fin 4) (p : Fin 6144) :
    Host.reduceAdd v (constant S_ .f32 0x00000000#32) reducesTo_S4x6144x8192_S4x6144_d2 h_S_ (ix2 b p) = (∑ k : Fin 8192, v (ix3 b p k) : EReal) := by
  refine (Ideal.hostReduceAdd_single reducesTo_S4x6144x8192_S4x6144_d2 (by decide) v _ (ix2 b p)).trans ?_
  refine (congrArg₂ (· + ·) B_zero (Finset.sum_congr rfl fun k _ => congrArg v (funext fun a => ?_))).trans (zero_add _)
  fin_cases a <;> rfl

theorem tRinv_apply (b : Fin 4) (p : Fin 6144) : tRinv x (ix3 b p (0 : Fin 1)) = rinv (xrow x b p) := by
  unfold tRinv
  rw [rsqrt_at, add_at, div_at, bc_const, bc_const, broadcastInDim_apply _ _ _ _ (ix2 b p) (fun a => by fin_cases a <;> rfl), sum_apply, B_8192,
    Ideal.div_coe (by norm_num), rinv, B_mean, show (1 / 8192 : ℝ) = (2 : ℝ) ^ (-13 : ℤ) by norm_num]
  rfl

theorem tNrm_apply (b : Fin 4) (p : Fin 6144) (j : Fin 8192) : tNrm x w (ix3 b p j) = nrm (xrow x b p) (wf w) j := by
  unfold tNrm
  rw [mul_at, mul_at, ext_at, broadcastInDim_apply _ _ (tRinv x) _ (ix3 b p (0 : Fin 1)) (fun a => by fin_cases a <;> rfl), tRinv_apply,
    broadcastInDim_apply _ _ _ _ (ix3 (0 : Fin 1) (0 : Fin 1) j) (fun a => by fin_cases a <;> rfl),
    broadcastInDim_apply _ _ _ _ (ix1 j) (fun a => by fin_cases a; rfl)]
  rfl

theorem tGrp_apply (b : Fin 4) (p : Fin 6144) (g : Fin 64) (l : Fin 128) : tGrp x w (ix4 b p g l) = nrm (xrow x b p) (wf w) (col g l) := by
  refine (shapeCast_apply _ _ _ (ix3 b p (col g l)) ?_).trans (tNrm_apply x w b p _)
  rw [Shape.rowMajor_val_three, Shape.rowMajor_val_four]
  show (b.val * 6144 + p.val) * 8192 + (128 * g.val + l.val) = ((b.val * 6144 + p.val) * 64 + g.val) * 128 + l.val
  omega

theorem max_apply (v : FVec Ideal S4x6144x64x128 .f32) (b : Fin 4) (p : Fin 6144) (g : Fin 64) :
    Host.reduce FloatOps.maximumf v (constant S_ .f32 0xFF800000#32) reducesTo_S4x6144x64x128_S4x6144x64_d3 h_S_ (ix3 b p g)
      = (Finset.univ : Finset (Fin 128)).fold max (B 0xFF800000#32) fun l => v (ix4 b p g l) := by
  refine (congrFun (hostReduce_maximumf_eq_multiReduction v 0xFF800000#32 reducesTo_S4x6144x64x128_S4x6144x64_d3 h_S_ (by decide) (.inl rfl) rfl) _).trans ?_
  refine (Ideal.multiReduction_maximumf_single v _ (by decide) (.inl rfl) rfl (ix3 b p g)).trans ?_
  refine congrArg (fun f => (Finset.univ : Finset (Fin 128)).fold max (B 0xFF800000#32) f) (funext fun l => congrArg v (funext fun a => ?_))
  fin_cases a <;> rfl

theorem tMax_apply (b : Fin 4) (p : Fin 6144) (g : Fin 64) : tMax (tGrp x w) (ix3 b p g) = tmax (xrow x b p) (wf w) g := by
  unfold tMax
  rw [mul_at, bc_const, max_apply, tmax, amax]
  refine congrArg (fun f => (Finset.univ : Finset (Fin 128)).fold max (B 0xFF800000#32) f * B 0x3B124925#32) (funext fun l => ?_)
  rw [abs_at, tGrp_apply x w b p g l]

theorem tExpo_apply (t : FVec Ideal S4x6144x64 .f32) (i : S4x6144x64.Idx) : tExpo t i = expo (t i) := by
  unfold tExpo
  rw [select_apply, lt_at, add_at, floor_at, div_at, log_at, bc_const, bc_const, bc_const, B_zero, expo]
  by_cases h : (t i : EReal) < B 0x00800000#32
  · rw [if_pos h, decide_eq_true h]
    rfl
  · rw [if_neg h, decide_eq_false h]
    rfl

theorem tScale_apply (e : FVec Ideal S4x6144x64 .f32) (i : S4x6144x64.Idx) : tScale e i = Ideal.pow (B 0x40000000#32) (e i) := rfl

theorem tCode_apply (b : Fin 4) (p : Fin 6144) (j : Fin 8192) :
    tCode (tGrp x w) (tExpo (tMax (tGrp x w))) (ix3 b p j) = resC x (wf w) b p j := by
  refine (shapeCast_apply _ _ _ (ix4 b p (grp j) (⟨j.val % 128, by omega⟩ : Fin 128)) ?_).trans ?_
  · rw [Shape.rowMajor_val_three, Shape.rowMajor_val_four]
    show ((b.val * 6144 + p.val) * 64 + j.val / 128) * 128 + j.val % 128 = (b.val * 6144 + p.val) * 8192 + j.val
    omega
  rw [min_at, max_at, mul_at, bc_const, bc_const, broadcastInDim_apply _ _ _ _ (ix4 b p (grp j) (0 : Fin 1)) (fun a => by fin_cases a <;> rfl),
    broadcastInDim_apply _ _ _ _ (ix3 b p (grp j)) (fun a => by fin_cases a <;> rfl), tScale_apply, tGrp_apply]
  rw [neg_at, tExpo_apply, tMax_apply, show col (grp j) (⟨j.val % 128, by omega⟩ : Fin 128) = j from Fin.ext (by show 128 * (j.val / 128) + j.val % 128 = j.val; omega)]
  rfl

theorem tScale_expo_apply (b : Fin 4) (p : Fin 6144) (g : Fin 64) :
    tScale (tExpo (tMax (tGrp x w))) (ix3 b p g) = resS x (wf w) b p g := by
  rw [tScale_apply, tExpo_apply, tMax_apply]
  rfl

end

end Cert.ReferenceIdeal.Hand
-- ==== Proof.RefEntry.lean ====
module

public import proofs.«01_k».proof.Proof.RefHost
public import Idealize.ShloMosaic.Lib.StableHlo.RunRead
public import Idealize.ShloMosaic.Lib.Claim

@[expose] public section
noncomputable section
namespace Cert.ReferenceIdeal.Hand
open Cert.ReferenceIdeal Cert.ReferenceIdeal.Gen Idealize.ShloMosaic Idealize.ShloMosaic.TcCoe Idealize.SL.Sem
open Idealize.ShloMosaic.ValueIdx Cert.Spec
open scoped BigOperators

/-! # What the buffers hold when the casts start -/

variable (U : Valuation τ sig (Elt Ideal))

theorem ops0_v15 : StableHlo.after hostOps0 U (Proc.devRef .tc main_v15) = tGrp (U (Proc.devRef .tc main_arg0)) (U (Proc.devRef .tc main_arg1)) := by
  after_reads_simp
  rfl

theorem ops0_v19 : StableHlo.after hostOps0 U (Proc.devRef .tc main_v19) = tMax (StableHlo.after hostOps0 U (Proc.devRef .tc main_v15)) := by
  after_reads_simp
  rfl

theorem ops0_v28 : StableHlo.after hostOps0 U (Proc.devRef .tc main_v28)
    = cmpf .olt (StableHlo.after hostOps0 U (Proc.devRef .tc main_v19)) (broadcastInDim S4x6144x64 ![] bcast_S_S4x6144x64 (constant (F := Ideal) S_ .f32 0x00800000#32)) := by
  after_reads_simp

theorem ops0_v26 : StableHlo.after hostOps0 U (Proc.devRef .tc main_v26)
    = addf (Host.floor (Host.divf (Host.log (StableHlo.after hostOps0 U (Proc.devRef .tc main_v19)))
        (broadcastInDim S4x6144x64 ![] bcast_S_S4x6144x64 (Host.log (constant (F := Ideal) S_ .f32 0x40000000#32)))))
      (broadcastInDim S4x6144x64 ![] bcast_S_S4x6144x64 (constant (F := Ideal) S_ .f32 0x3F800000#32)) := by
  after_reads_simp

theorem ops0_cst8 : StableHlo.after hostOps0 U (Proc.devRef .tc main_cst_8) = constant (F := Ideal) S_ .f32 0x00000000#32 := by
  after_reads_simp

theorem ops1_sel : StableHlo.after hostOps0_1 U (Proc.devRef .tc main_v29)
    = select (α := Ideal .f32) (U (Proc.devRef .tc main_v28)) (broadcastInDim S4x6144x64 ![] bcast_S_S4x6144x64 (U (Proc.devRef .tc main_cst_8))) (U (Proc.devRef .tc main_v26)) := by
  after_reads_simp
  rfl

/-- The exponents, of the greatest magnitudes over 448. -/
theorem ops1_v29 : StableHlo.after hostOps0_1 (StableHlo.after hostOps0 U) (Proc.devRef .tc main_v29) = tExpo (StableHlo.after hostOps0 U (Proc.devRef .tc main_v19)) := by
  rw [ops1_sel, ops0_v28, ops0_v26, ops0_cst8]
  rfl

theorem ops2_v31 : StableHlo.after hostOps0_2 U (Proc.devRef .tc main_v31) = tScale (U (Proc.devRef .tc main_v29)) := by
  after_reads_simp
  rfl

theorem ops2_v42 : StableHlo.after hostOps0_2 U (Proc.devRef .tc main_v42) = tCode (U (Proc.devRef .tc main_v15)) (U (Proc.devRef .tc main_v29)) := by
  after_reads_simp
  rfl

theorem ops1_v15 : StableHlo.after hostOps0_1 U (Proc.devRef .tc main_v15) = U (Proc.devRef .tc main_v15) := by
  after_reads_simp

theorem ops012_cst : StableHlo.after hostOps0_2 (StableHlo.after hostOps0_1 (StableHlo.after hostOps0 U)) (Proc.devRef .tc main_cst)
    = (fun i => FloatOps.ofBits (F := Ideal) .f32 (lit0 (S64.rowMajor i))) := by
  after_reads_simp
  rfl

section
variable (m : (ℓ : Loc nD τ sig) → Buf (Elt Ideal) ℓ) (c : Dev nD)

/-- The arguments. -/
def rX : FVec Ideal S4x6144x8192 .bf16 := m ((c : Thread nD τ).loc main_arg0)
def rN : FVec Ideal S8192 .bf16 := m ((c : Thread nD τ).loc main_arg1)
def rW : FVec Ideal S8192x2304 .fp8e4m3 := m ((c : Thread nD τ).loc main_arg2)
def rS : FVec Ideal S64x18 .f32 := m ((c : Thread nD τ).loc main_arg3)
def rO : IVec S4 32 := m ((c : Thread nD τ).loc main_arg4)

theorem V0_eq : V0 m c = StableHlo.after hostOps0_2 (StableHlo.after hostOps0_1 (StableHlo.after hostOps0 fun b => m (c, b))) := by
  show StableHlo.after (List.flatten [hostOps0, hostOps0_1, hostOps0_2]) _ = _
  simp only [List.flatten_cons, List.flatten_nil, List.append_nil, StableHlo.after_append]

theorem V_v31 : V m c main_v31 = tScale (tExpo (tMax (tGrp (rX m c) (rN m c)))) := by
  show V0 m c _ = _
  rw [V0_eq, ops2_v31, ops1_v29, ops0_v19, ops0_v15]
  rfl

theorem V_v42 : V m c main_v42 = tCode (tGrp (rX m c) (rN m c)) (tExpo (tMax (tGrp (rX m c) (rN m c)))) := by
  show V0 m c _ = _
  rw [V0_eq, ops2_v42, ops1_v29, ops1_v15, ops0_v19, ops0_v15]
  rfl

theorem V_cst : V m c main_cst = (fun i => FloatOps.ofBits (F := Ideal) .f32 (lit0 (S64.rowMajor i))) := by
  show V0 m c _ = _
  rw [V0_eq, ops012_cst]

end

end Cert.ReferenceIdeal.Hand
-- ==== Proof.RefCasts.lean ====
module

public import proofs.«01_k».proof.Proof.RefEntry
public import Idealize.ShloMosaic.Lib.Pipeline.ValueKit.Geometry

@[expose] public section
noncomputable section
namespace Cert.ReferenceIdeal.Hand
open Cert.ReferenceIdeal Cert.ReferenceIdeal.Gen Idealize.ShloMosaic Idealize.ShloMosaic.TcCoe Idealize.SL.Sem
open Idealize.ShloMosaic.ValueIdx Cert.Spec
open scoped BigOperators

/-! # The casts' arrays

Over the extended reals a cast changes nothing, so the two arrays of codes hold the codes and the third the matrix. -/

variable (m : (ℓ : Loc nD τ sig) → Buf (Elt Ideal) ℓ) (c : Dev nD)

theorem zero3 : (![0, 0, 0] : Fin S4x6144x8192.rank → Nat) = fun _ => 0 := funext fun a => by fin_cases a <;> rfl
theorem zero2 : (![0, 0] : Fin S8192x2304.rank → Nat) = fun _ => 0 := funext fun a => by fin_cases a <;> rfl

theorem out2_eq (x0 : Vec Ideal S4x6144x8192 .f32) (x1 : Vec Ideal S8192x2304 .fp8e4m3) : out0_2 x0 x1 = x0 := by
  unfold out0_2
  rw [View.canon_unit_zero zero3, View.ld_unit_zero zero3]
  unfold k0_pay1
  dsimp only
  rw [shapeCast_self]
  rfl

theorem out3_eq (x0 : Vec Ideal S4x6144x8192 .f32) (x1 : Vec Ideal S8192x2304 .fp8e4m3) : out0_3 x0 x1 = x0 := by
  unfold out0_3
  rw [View.canon_unit_zero zero3, View.ld_unit_zero zero3]
  unfold k0_pay2 k0_pay1
  dsimp only
  rw [shapeCast_self]
  rfl

theorem out4_eq (x0 : Vec Ideal S4x6144x8192 .f32) (x1 : Vec Ideal S8192x2304 .fp8e4m3) : out0_4 x0 x1 = x1 := by
  unfold out0_4
  rw [View.canon_unit_zero zero2, View.ld_unit_zero zero2]
  rfl

theorem iblk0 : iblk m c 0 t0_0 = V m c main_v42 := by
  have hz : (fun a => (win0_0.index t0_0) a * main_v42.ty.shape.size a) = fun _ => 0 := funext fun a => by fin_cases a <;> rfl
  unfold iblk
  exact Memref.read_access_unit_zero (Elt Ideal) main_v42 hz (fun a => by fin_cases a <;> decide) _

theorem iblk1 : iblk m c 1 t0_0 = V m c main_arg2 := by
  have hz : (fun a => (win0_1.index t0_0) a * main_arg2.ty.shape.size a) = fun _ => 0 := funext fun a => by fin_cases a <;> rfl
  unfold iblk
  exact Memref.read_access_unit_zero (Elt Ideal) main_arg2 hz (fun a => by fin_cases a <;> decide) _

theorem final (w : Fin 5) (hf : (cfg0.win w).flush t0_0 = true) :
    ((cfg0.win w).blk t0_0).view.read (Elt Ideal) ((dats m 0 c).arrAt w cfg0.N) = (dats m 0 c).flushed w t0_0 := by
  rw [show cfg0.N = (t0_0 : Fin cfg0.N).val + 1 from rfl, (dats m 0 c).arrAt_succ w t0_0, hf, if_pos rfl]
  exact View.read_write_univ _ _

theorem arr2 : (dats m 0 c).arrAt 2 cfg0.N = V m c main_v42 := by
  have ho := final m c 2 (by decide)
  have hz : (fun a => (win0_2.index t0_0) a * main_v43_0.ty.shape.size a) = fun _ => 0 := funext fun a => by fin_cases a <;> rfl
  rw [fun f => Memref.read_access_unit_zero (Elt Ideal) main_v43_0 hz (fun a => by fin_cases a <;> decide) f] at ho
  rw [ho]
  show (cfg0.win 2).cut _ ((dats m 0 c).after 2 t0_0) = _
  rw [after0_2, out2_eq, iblk0]
  rfl

theorem arr3 : (dats m 0 c).arrAt 3 cfg0.N = V m c main_v42 := by
  have ho := final m c 3 (by decide)
  have hz : (fun a => (win0_3.index t0_0) a * main_v43_1.ty.shape.size a) = fun _ => 0 := funext fun a => by fin_cases a <;> rfl
  rw [fun f => Memref.read_access_unit_zero (Elt Ideal) main_v43_1 hz (fun a => by fin_cases a <;> decide) f] at ho
  rw [ho]
  show (cfg0.win 3).cut _ ((dats m 0 c).after 3 t0_0) = _
  rw [after0_3, out3_eq, iblk0]
  rfl

theorem arr4 : (dats m 0 c).arrAt 4 cfg0.N = V m c main_arg2 := by
  have ho := final m c 4 (by decide)
  have hz : (fun a => (win0_4.index t0_0) a * main_v43_2.ty.shape.size a) = fun _ => 0 := funext fun a => by fin_cases a <;> rfl
  rw [fun f => Memref.read_access_unit_zero (Elt Ideal) main_v43_2 hz (fun a => by fin_cases a <;> decide) f] at ho
  rw [ho]
  show (cfg0.win 4).cut _ ((dats m 0 c).after 4 t0_0) = _
  rw [after0_4, out4_eq, iblk1]
  rfl

end Cert.ReferenceIdeal.Hand
-- ==== Proof.RefProd.lean ====
module

public import proofs.«01_k».proof.Proof.RefHost
public import Idealize.ShloMosaic.Lib.Pointwise.Contract

@[expose] public section
noncomputable section
namespace Cert.ReferenceIdeal.Hand
open Cert.ReferenceIdeal Cert.ReferenceIdeal.Gen Idealize.ShloMosaic Idealize.ShloMosaic.TcCoe Idealize.SL.Sem
open Cert.Spec
open scoped BigOperators

/-! # The reference's product and its heads

Each array as the host computes it from earlier ones, and its entries over the extended reals. -/

/-- The dequantised rows, of the codes and their scales. -/
def tDeq (cd : FVec Ideal S4x6144x8192 .bf16) (sc : FVec Ideal S4x6144x64 .f32) : FVec Ideal S4x6144x8192 .bf16 :=
  shapeCast S4x6144x8192 (mulf (shapeCast S4x6144x64x128 cd shapeCasts_S4x6144x8192_S4x6144x64x128)
    (broadcastInDim S4x6144x64x128 ![0, 1, 2, 3] bcast_S4x6144x64x1_S4x6144x64x128_0_1_2_3
      (broadcastInDim S4x6144x64x1 ![0, 1, 2] bcast_S4x6144x64_S4x6144x64x1_0_1_2 (truncf .bf16 sc bitsLt_bf16_f32))))
    shapeCasts_S4x6144x64x128_S4x6144x8192

/-- The dequantised matrix. -/
def tWdq (W : FVec Ideal S8192x2304 .bf16) (s : FVec Ideal S64x18 .f32) : FVec Ideal S8192x2304 .bf16 :=
  shapeCast S8192x2304 (mulf (shapeCast S64x128x18x128 W shapeCasts_S8192x2304_S64x128x18x128)
    (broadcastInDim S64x128x18x128 ![0, 1, 2, 3] bcast_S64x1x18x1_S64x128x18x128_0_1_2_3
      (broadcastInDim S64x1x18x1 ![0, 2] bcast_S64x18_S64x1x18x1_0_2 (truncf .bf16 s bitsLt_bf16_f32))))
    shapeCasts_S64x128x18x128_S8192x2304

/-- The product. -/
def tProd (a : FVec Ideal S4x6144x8192 .bf16) (W : FVec Ideal S8192x2304 .bf16) : FVec Ideal S4x6144x2304 .f32 :=
  Host.dotGeneral dot_S4x6144x8192_S8192x2304_S4x6144x2304_2_0_01_1_n_n none a W

/-- The query heads, the key heads and the value heads. -/
def tQ (P : FVec Ideal S4x6144x2304 .f32) : FVec Ideal S4x6144x32x64 .f32 :=
  shapeCast S4x6144x32x64 (extractStridedSlice S4x6144x2048 ![0, 0, 0] P slices_S4x6144x2304_S4x6144x2048_0_0_0) shapeCasts_S4x6144x2048_S4x6144x32x64
def tK (P : FVec Ideal S4x6144x2304 .f32) : FVec Ideal S4x6144x2x64 .f32 :=
  shapeCast S4x6144x2x64 (extractStridedSlice S4x6144x128 ![0, 0, 2048] P slices_S4x6144x2304_S4x6144x128_0_0_2048) shapeCasts_S4x6144x128_S4x6144x2x64
def tV (P : FVec Ideal S4x6144x2304 .f32) : FVec Ideal S4x6144x2x64 .f32 :=
  shapeCast S4x6144x2x64 (extractStridedSlice S4x6144x128 ![0, 0, 2176] P slices_S4x6144x2304_S4x6144x128_0_0_2176) shapeCasts_S4x6144x128_S4x6144x2x64

/-- The angles. -/
def tAng (off : IVec S4 32) (f : FVec Ideal S64 .f32) : FVec Ideal S4x6144x64 .f32 :=
  mulf (broadcastInDim S4x6144x64 ![0, 1, 2] bcast_S4x6144x1_S4x6144x64_0_1_2 (broadcastInDim S4x6144x1 ![0, 1] bcast_S4x6144_S4x6144x1_0_1
      (sitofp .f32 (addi (broadcastInDim S4x6144 ![0, 1] bcast_S4x1_S4x6144_0_1 (broadcastInDim S4x1 ![0] bcast_S4_S4x1_0 off))
        (broadcastInDim S4x6144 ![0, 1] bcast_S1x6144_S4x6144_0_1 (broadcastInDim S1x6144 ![1] bcast_S6144_S1x6144_1 (iotaInDim S6144 32 0)))))))
    (broadcastInDim S4x6144x64 ![0, 1, 2] bcast_S1x1x64_S4x6144x64_0_1_2 (broadcastInDim S1x1x64 ![2] bcast_S64_S1x1x64_2 f))

/-- Which entries of a head are even. -/
def tEven : IVec S64 1 :=
  cmpi .eq (andi (iotaInDim S64 32 0) (broadcastInDim S64 ![] bcast_S_S64 (constantI S_ 32 1#32))) (broadcastInDim S64 ![] bcast_S_S64 (constantI S_ 32 0#32))

/-- The cosines, and the sines negated at the even entries. -/
def tCos (ang : FVec Ideal S4x6144x64 .f32) : FVec Ideal S4x6144x1x64 .f32 :=
  broadcastInDim S4x6144x1x64 ![0, 1, 3] bcast_S4x6144x64_S4x6144x1x64_0_1_3 (Host.cos ang)
def tSin (ang : FVec Ideal S4x6144x64 .f32) : FVec Ideal S4x6144x1x64 .f32 :=
  broadcastInDim S4x6144x1x64 ![0, 1, 3] bcast_S4x6144x64_S4x6144x1x64_0_1_3
    (select (broadcastInDim S4x6144x64 ![2] bcast_S64_S4x6144x64_2 tEven) (Host.negf (Host.sin ang)) (Host.sin ang))

/-- `H` heads' array. -/
abbrev Hs (H n : ℕ) : Shape := ⟨4, ![4, 6144, H, n]⟩

/-- `H` heads rotated. -/
def tRope {H : ℕ} (t : FVec Ideal (Hs H 64) .f32) (cs sn : FVec Ideal S4x6144x1x64 .f32)
    (b4 : S4x6144x1x64.BroadcastsInDim (Hs H 64) ![0, 1, 2, 3]) (b1 : S64.BroadcastsInDim (Hs H 64) ![3])
    (s1 : (Hs H 64).Slices ![0, 0, 0, 1] (Hs H 63)) (s2 : (Hs H 64).Slices ![0, 0, 0, 0] (Hs H 1))
    (s3 : (Hs H 64).Slices ![0, 0, 0, 63] (Hs H 1)) (s4 : (Hs H 64).Slices ![0, 0, 0, 0] (Hs H 63))
    (c1 : Shape.Concatenates [Hs H 63, Hs H 1] (Hs H 64) 3) (c2 : Shape.Concatenates [Hs H 1, Hs H 63] (Hs H 64) 3) : FVec Ideal (Hs H 64) .f32 :=
  addf (mulf t (broadcastInDim (Hs H 64) ![0, 1, 2, 3] b4 cs))
    (mulf (select (broadcastInDim (Hs H 64) ![3] b1 tEven)
        (concatenate (Hs H 64) 3 [⟨Hs H 63, extractStridedSlice (Hs H 63) ![0, 0, 0, 1] t s1⟩, ⟨Hs H 1, extractStridedSlice (Hs H 1) ![0, 0, 0, 0] t s2⟩] c1)
        (concatenate (Hs H 64) 3 [⟨Hs H 1, extractStridedSlice (Hs H 1) ![0, 0, 0, 63] t s3⟩, ⟨Hs H 63, extractStridedSlice (Hs H 63) ![0, 0, 0, 0] t s4⟩] c2))
      (broadcastInDim (Hs H 64) ![0, 1, 2, 3] b4 sn))

/-! ## Their entries -/

theorem mulf_at {S : Shape} {f : FTy} (u v : FVec Ideal S f) (i : S.Idx) : mulf u v i = (u i * v i : EReal) := rfl
theorem addf_at {S : Shape} {f : FTy} (u v : FVec Ideal S f) (i : S.Idx) : addf u v i = (u i + v i : EReal) := rfl
theorem select_at {S : Shape} (k : IVec S 1) (u v : FVec Ideal S .f32) (i : S.Idx) : select k u v i = Scalar.select (k i) (u i) (v i) := rfl

theorem tDeq_apply (cd : FVec Ideal S4x6144x8192 .bf16) (sc : FVec Ideal S4x6144x64 .f32) (b : Fin 4) (p : Fin 6144) (j : Fin 8192) :
    tDeq cd sc (ix3 b p j) = (cd (ix3 b p j) * sc (ix3 b p (grp j)) : EReal) := by
  refine (shapeCast_apply _ _ _ (ix4 b p (grp j) (⟨j.val % 128, by omega⟩ : Fin 128)) ?_).trans ?_
  · rw [Shape.rowMajor_val_three, Shape.rowMajor_val_four]
    show ((b.val * 6144 + p.val) * 64 + j.val / 128) * 128 + j.val % 128 = (b.val * 6144 + p.val) * 8192 + j.val
    omega
  rw [mulf_at, shapeCast_apply cd _ _ (ix3 b p j), broadcastInDim_apply _ _ _ _ (ix4 b p (grp j) (0 : Fin 1)) (fun a => by fin_cases a <;> rfl),
    broadcastInDim_apply _ _ _ _ (ix3 b p (grp j)) (fun a => by fin_cases a <;> rfl)]
  · rfl
  · rw [Shape.rowMajor_val_three, Shape.rowMajor_val_four]
    show (b.val * 6144 + p.val) * 8192 + j.val = ((b.val * 6144 + p.val) * 64 + j.val / 128) * 128 + j.val % 128
    omega

theorem tWdq_apply (W : FVec Ideal S8192x2304 .bf16) (s : FVec Ideal S64x18 .f32) (k : Fin 8192) (n : Fin 2304) :
    tWdq W s (ix2 k n) = wdq W s n k := by
  have hr : (k.val / 128 * 128 + k.val % 128) * 18 = k.val * 18 := by omega
  refine (shapeCast_apply _ _ _ (ix4 (⟨k.val / 128, by omega⟩ : Fin 64) (⟨k.val % 128, by omega⟩ : Fin 128) (⟨n.val / 128, by omega⟩ : Fin 18) (⟨n.val % 128, by omega⟩ : Fin 128)) ?_).trans ?_
  · rw [Shape.rowMajor_val_two, Shape.rowMajor_val_four]
    show ((k.val / 128 * 128 + k.val % 128) * 18 + n.val / 128) * 128 + n.val % 128 = k.val * 2304 + n.val
    omega
  rw [mulf_at, shapeCast_apply W _ _ (ix2 k n), broadcastInDim_apply _ _ _ _ (ix4 (⟨k.val / 128, by omega⟩ : Fin 64) (0 : Fin 1) (⟨n.val / 128, by omega⟩ : Fin 18) (0 : Fin 1)) (fun a => by fin_cases a <;> rfl),
    broadcastInDim_apply _ _ _ _ (ix2 (⟨k.val / 128, by omega⟩ : Fin 64) (⟨n.val / 128, by omega⟩ : Fin 18)) (fun a => by fin_cases a <;> rfl)]
  · rfl
  · rw [Shape.rowMajor_val_two, Shape.rowMajor_val_four]
    show k.val * 2304 + n.val = ((k.val / 128 * 128 + k.val % 128) * 18 + n.val / 128) * 128 + n.val % 128
    omega

theorem tProd_apply (a : FVec Ideal S4x6144x8192 .bf16) (W : FVec Ideal S8192x2304 .bf16) (b : Fin 4) (p : Fin 6144) (n : Fin 2304) :
    tProd a W (ix3 b p n) = (∑ k : Fin 8192, a (ix3 b p k) * W (ix2 k n) : EReal) := by
  refine (Ideal.dotGeneral_apply _ _ _ a W (ix3 b p n)).trans ?_
  refine (DotDims.sum_contr₁ _ (a := 2) rfl (K := 8192) rfl _).trans ?_
  refine Finset.sum_congr rfl fun k _ => congrArg₂ (· * ·) (congrArg a (funext fun i => ?_)) (congrArg W (funext fun i => ?_))
  · fin_cases i <;> rfl
  · fin_cases i <;> rfl

theorem head_apply {N H off : ℕ} (hN : N = H * 64) (P : FVec Ideal S4x6144x2304 .f32) (hs : S4x6144x2304.Slices ![0, 0, off] ⟨3, ![4, 6144, N]⟩)
    (hc : (⟨3, ![4, 6144, N]⟩ : Shape).ShapeCasts (Hs H 64)) (b : Fin 4) (p : Fin 6144) (n : Fin H) (d : Fin 64) (hl : off + (64 * n.val + d.val) < 2304) :
    shapeCast (Hs H 64) (extractStridedSlice ⟨3, ![4, 6144, N]⟩ ![0, 0, off] P hs) hc (ix4 b p n d) = P (ix3 b p (⟨off + (64 * n.val + d.val), hl⟩ : Fin 2304)) := by
  have hi : 64 * n.val + d.val < N := by have := n.isLt; rw [hN]; omega
  refine (shapeCast_apply _ _ _ (ix3 b p (⟨64 * n.val + d.val, hi⟩ : Fin N)) ?_).trans ?_
  · rw [Shape.rowMajor_val_three, Shape.rowMajor_val_four]
    show (b.val * 6144 + p.val) * N + (64 * n.val + d.val) = ((b.val * 6144 + p.val) * H + n.val) * 64 + d.val
    rw [hN, Nat.add_mul _ n.val, Nat.mul_assoc _ H 64, Nat.mul_comm n.val 64, Nat.add_assoc]
  · exact extractStridedSlice_apply _ _ _ _ _ fun a => by
      fin_cases a
      · exact (Nat.zero_add _).symm
      · exact (Nat.zero_add _).symm
      · rfl

theorem tQ_apply (P : FVec Ideal S4x6144x2304 .f32) (b : Fin 4) (p : Fin 6144) (n : Fin 32) (d : Fin 64) : tQ P (ix4 b p n d) = P (ix3 b p (qrow n d)) := by
  refine (head_apply (by rfl) P _ _ b p n d (by omega)).trans (congrArg (fun r => P (ix3 b p r)) (Fin.ext ?_))
  exact Nat.zero_add _

theorem tK_apply (P : FVec Ideal S4x6144x2304 .f32) (b : Fin 4) (p : Fin 6144) (n : Fin 2) (d : Fin 64) : tK P (ix4 b p n d) = P (ix3 b p (krow n d)) :=
  head_apply (by rfl) P _ _ b p n d (by omega)

theorem tV_apply (P : FVec Ideal S4x6144x2304 .f32) (b : Fin 4) (p : Fin 6144) (n : Fin 2) (d : Fin 64) : tV P (ix4 b p n d) = P (ix3 b p (vrow n d)) :=
  head_apply (by rfl) P _ _ b p n d (by omega)

theorem tAng_apply (off : IVec S4 32) (f : FVec Ideal S64 .f32) (b : Fin 4) (p : Fin 6144) (d : Fin 64) :
    tAng off f (ix3 b p d) = angE off (fun d => f (ix1 d)) b p d := by
  unfold tAng
  rw [mulf_at, broadcastInDim_apply _ _ _ _ (ix3 b p (0 : Fin 1)) (fun a => by fin_cases a <;> rfl),
    broadcastInDim_apply _ _ _ _ (ix2 b p) (fun a => by fin_cases a <;> rfl),
    broadcastInDim_apply _ _ _ _ (ix3 (0 : Fin 1) (0 : Fin 1) d) (fun a => by fin_cases a <;> rfl),
    broadcastInDim_apply _ _ f _ (ix1 d) (fun a => by fin_cases a; rfl)]
  show (FloatOps.sitofp (F := Ideal) .f32 (broadcastInDim S4x6144 ![0, 1] bcast_S4x1_S4x6144_0_1 (broadcastInDim S4x1 ![0] bcast_S4_S4x1_0 off) (ix2 b p)
    + broadcastInDim S4x6144 ![0, 1] bcast_S1x6144_S4x6144_0_1 (broadcastInDim S1x6144 ![1] bcast_S6144_S1x6144_1 (iotaInDim S6144 32 0)) (ix2 b p)) * _ : EReal) = _
  rw [broadcastInDim_apply _ _ _ _ (ix2 b (0 : Fin 1)) (fun a => by fin_cases a <;> rfl),
    broadcastInDim_apply _ _ off _ (ix1 b) (fun a => by fin_cases a; rfl),
    broadcastInDim_apply _ _ _ _ (ix2 (0 : Fin 1) p) (fun a => by fin_cases a <;> rfl),
    broadcastInDim_apply _ _ (iotaInDim S6144 32 0) _ (ix1 p) (fun a => by fin_cases a; rfl)]
  rfl

theorem tEven_apply (d : Fin 64) : tEven (ix1 d) = BitVec.ofBool (decide (d.val % 2 = 0)) := by
  have h : ∀ d : Fin 64, BitVec.ofBool ((BitVec.ofNat 32 d.val &&& 1#32) == 0#32) = BitVec.ofBool (decide (d.val % 2 = 0)) := by decide +kernel
  exact h d

theorem tCos_apply (ang : FVec Ideal S4x6144x64 .f32) (b : Fin 4) (p : Fin 6144) (d : Fin 64) : tCos ang (ix4 b p (0 : Fin 1) d) = Ideal.cos (ang (ix3 b p d)) :=
  (broadcastInDim_apply _ _ _ _ (ix3 b p d) (fun a => by fin_cases a <;> rfl)).trans rfl

/-- A choice by the evenness of an entry. -/
theorem select_even (u v : EReal) (d : Fin 64) : Scalar.select (BitVec.ofBool (decide (d.val % 2 = 0))) u v = if d.val % 2 = 0 then u else v := by
  by_cases h : d.val % 2 = 0
  · rw [if_pos h, decide_eq_true h]; rfl
  · rw [if_neg h, decide_eq_false h]; rfl

theorem tSin_apply (ang : FVec Ideal S4x6144x64 .f32) (b : Fin 4) (p : Fin 6144) (d : Fin 64) :
    tSin ang (ix4 b p (0 : Fin 1) d) = if d.val % 2 = 0 then -(Ideal.sin (ang (ix3 b p d))) else Ideal.sin (ang (ix3 b p d)) := by
  refine (broadcastInDim_apply _ _ _ _ (ix3 b p d) (fun a => by fin_cases a <;> rfl)).trans ?_
  rw [select_at, broadcastInDim_apply _ _ tEven _ (ix1 d) (fun a => by fin_cases a; rfl), tEven_apply]
  exact select_even _ _ d

section
variable {H : ℕ} (t : FVec Ideal (Hs H 64) .f32) (b : Fin 4) (p : Fin 6144) (n : Fin H) (d : Fin 64)

theorem slice_apply {k o : ℕ} (s : (Hs H 64).Slices ![0, 0, 0, o] (Hs H k)) (e : Fin k) (hd : d.val = o + e.val) :
    extractStridedSlice (Hs H k) ![0, 0, 0, o] t s (ix4 b p n e) = t (ix4 b p n d) :=
  extractStridedSlice_apply _ _ _ _ _ fun a => by
    fin_cases a
    · exact (Nat.zero_add _).symm
    · exact (Nat.zero_add _).symm
    · exact (Nat.zero_add _).symm
    · exact hd

theorem up_apply (s1 : (Hs H 64).Slices ![0, 0, 0, 1] (Hs H 63)) (s2 : (Hs H 64).Slices ![0, 0, 0, 0] (Hs H 1))
    (c1 : Shape.Concatenates [Hs H 63, Hs H 1] (Hs H 64) 3) :
    concatenate (Hs H 64) 3 [⟨Hs H 63, extractStridedSlice (Hs H 63) ![0, 0, 0, 1] t s1⟩, ⟨Hs H 1, extractStridedSlice (Hs H 1) ![0, 0, 0, 0] t s2⟩] c1 (ix4 b p n d)
      = t (ix4 b p n ⟨(d.val + 1) % 64, by omega⟩) := by
  by_cases h : d.val < 63
  · refine (concatenate_pair_apply_left (t := Hs H 64) 3 (extractStridedSlice (Hs H 63) ![0, 0, 0, 1] t s1) (extractStridedSlice (Hs H 1) ![0, 0, 0, 0] t s2) c1 (ix4 b p n d) rfl (ix4 b p n (⟨d.val, h⟩ : Fin 63)) fun a => by fin_cases a <;> rfl).trans ?_
    exact slice_apply t b p n _ s1 _ (by show (d.val + 1) % 64 = 1 + d.val; omega)
  · refine (concatenate_pair_apply_right (t := Hs H 64) 3 (extractStridedSlice (Hs H 63) ![0, 0, 0, 1] t s1) (extractStridedSlice (Hs H 1) ![0, 0, 0, 0] t s2) c1 (ix4 b p n d) rfl rfl (ix4 b p n (0 : Fin 1)) (fun a ha => ?_) ?_).trans ?_
    · fin_cases a
      · rfl
      · rfl
      · rfl
      · exact absurd rfl ha
    · show 0 + 63 = d.val; omega
    · exact slice_apply t b p n _ s2 _ (by show (d.val + 1) % 64 = 0 + 0; omega)

theorem down_apply (s3 : (Hs H 64).Slices ![0, 0, 0, 63] (Hs H 1)) (s4 : (Hs H 64).Slices ![0, 0, 0, 0] (Hs H 63))
    (c2 : Shape.Concatenates [Hs H 1, Hs H 63] (Hs H 64) 3) :
    concatenate (Hs H 64) 3 [⟨Hs H 1, extractStridedSlice (Hs H 1) ![0, 0, 0, 63] t s3⟩, ⟨Hs H 63, extractStridedSlice (Hs H 63) ![0, 0, 0, 0] t s4⟩] c2 (ix4 b p n d)
      = t (ix4 b p n ⟨(d.val + 63) % 64, by omega⟩) := by
  by_cases h : d.val = 0
  · refine (concatenate_pair_apply_left (t := Hs H 64) 3 (extractStridedSlice (Hs H 1) ![0, 0, 0, 63] t s3) (extractStridedSlice (Hs H 63) ![0, 0, 0, 0] t s4) c2 (ix4 b p n d) rfl (ix4 b p n (0 : Fin 1)) fun a => ?_).trans ?_
    · fin_cases a
      · rfl
      · rfl
      · rfl
      · exact h.symm
    · exact slice_apply t b p n _ s3 _ (by show (d.val + 63) % 64 = 63 + 0; omega)
  · refine (concatenate_pair_apply_right (t := Hs H 64) 3 (extractStridedSlice (Hs H 1) ![0, 0, 0, 63] t s3) (extractStridedSlice (Hs H 63) ![0, 0, 0, 0] t s4) c2 (ix4 b p n d) rfl rfl (ix4 b p n (⟨d.val - 1, by omega⟩ : Fin 63)) (fun a ha => ?_) ?_).trans ?_
    · fin_cases a
      · rfl
      · rfl
      · rfl
      · exact absurd rfl ha
    · show d.val - 1 + 1 = d.val; omega
    · exact slice_apply t b p n _ s4 _ (by show (d.val + 63) % 64 = 0 + (d.val - 1); omega)

theorem tRope_apply (ang : FVec Ideal S4x6144x64 .f32)
    (b4 : S4x6144x1x64.BroadcastsInDim (Hs H 64) ![0, 1, 2, 3]) (b1 : S64.BroadcastsInDim (Hs H 64) ![3])
    (s1 : (Hs H 64).Slices ![0, 0, 0, 1] (Hs H 63)) (s2 : (Hs H 64).Slices ![0, 0, 0, 0] (Hs H 1))
    (s3 : (Hs H 64).Slices ![0, 0, 0, 63] (Hs H 1)) (s4 : (Hs H 64).Slices ![0, 0, 0, 0] (Hs H 63))
    (c1 : Shape.Concatenates [Hs H 63, Hs H 1] (Hs H 64) 3) (c2 : Shape.Concatenates [Hs H 1, Hs H 63] (Hs H 64) 3) :
    tRope t (tCos ang) (tSin ang) b4 b1 s1 s2 s3 s4 c1 c2 (ix4 b p n d) = rope (fun d => t (ix4 b p n d)) (fun d => ang (ix3 b p d)) d := by
  unfold tRope
  rw [addf_at, mulf_at, mulf_at, select_at, up_apply, down_apply,
    broadcastInDim_apply _ _ (tCos ang) _ (ix4 b p (0 : Fin 1) d) (fun a => by fin_cases a <;> rfl),
    broadcastInDim_apply _ _ (tSin ang) _ (ix4 b p (0 : Fin 1) d) (fun a => by fin_cases a <;> rfl),
    broadcastInDim_apply _ _ tEven _ (ix1 d) (fun a => by fin_cases a; rfl), tEven_apply, tCos_apply, tSin_apply]
  exact congrArg (fun e => (t (ix4 b p n d) * Ideal.cos (ang (ix3 b p d)) + e * _ : EReal)) (select_even _ _ d)

end

end Cert.ReferenceIdeal.Hand
-- ==== Proof.RefTail.lean ====
module

public import proofs.«01_k».proof.Proof.RefCasts
public import proofs.«01_k».proof.Proof.RefProd

@[expose] public section
noncomputable section
namespace Cert.ReferenceIdeal.Hand
open Cert.ReferenceIdeal Cert.ReferenceIdeal.Gen Idealize.ShloMosaic Idealize.ShloMosaic.TcCoe Idealize.SL.Sem
open Cert.Spec
open scoped BigOperators

/-! # The reference's results

What each stretch of host operations after the casts leaves, from what it finds. -/

section
variable (U : Valuation τ sig (Elt Ideal))

/-! ## The product, the heads and the angles -/

theorem a_v49 : StableHlo.after hostOps1 U (Proc.devRef .tc main_v49) = tDeq (U (Proc.devRef .tc main_v43_1)) (U (Proc.devRef .tc main_v31)) := by
  after_reads_simp
  rfl

theorem a_v55 : StableHlo.after hostOps1 U (Proc.devRef .tc main_v55) = tWdq (U (Proc.devRef .tc main_v43_2)) (U (Proc.devRef .tc main_arg3)) := by
  after_reads_simp
  rfl

theorem a_v56 : StableHlo.after hostOps1 U (Proc.devRef .tc main_v56)
    = tProd (StableHlo.after hostOps1 U (Proc.devRef .tc main_v49)) (StableHlo.after hostOps1 U (Proc.devRef .tc main_v55)) := by
  after_reads_simp
  rfl

theorem a_v58 : StableHlo.after hostOps1 U (Proc.devRef .tc main_v58) = tQ (StableHlo.after hostOps1 U (Proc.devRef .tc main_v56)) := by
  after_reads_simp
  rfl

theorem a_v60 : StableHlo.after hostOps1 U (Proc.devRef .tc main_v60) = tK (StableHlo.after hostOps1 U (Proc.devRef .tc main_v56)) := by
  after_reads_simp
  rfl

theorem a_v62 : StableHlo.after hostOps1 U (Proc.devRef .tc main_v62) = tV (StableHlo.after hostOps1 U (Proc.devRef .tc main_v56)) := by
  after_reads_simp
  rfl

theorem a_v74 : StableHlo.after hostOps1 U (Proc.devRef .tc main_v74) = tAng (U (Proc.devRef .tc main_arg4)) (U (Proc.devRef .tc main_cst)) := by
  after_reads_simp
  rfl

theorem a_v79 : StableHlo.after hostOps1 U (Proc.devRef .tc main_v79) = tEven := by
  after_reads_simp
  rfl

theorem a_v81 : StableHlo.after hostOps1 U (Proc.devRef .tc main_v81) = tCos (StableHlo.after hostOps1 U (Proc.devRef .tc main_v74)) := by
  after_reads_simp
  rfl

theorem a_v82 : StableHlo.after hostOps1 U (Proc.devRef .tc main_v82) = Host.sin (F := Ideal) (φ := .f32) (StableHlo.after hostOps1 U (Proc.devRef .tc main_v74)) := by
  after_reads_simp

theorem a_v83 : StableHlo.after hostOps1 U (Proc.devRef .tc main_v83) = Host.negf (F := Ideal) (φ := .f32) (StableHlo.after hostOps1 U (Proc.devRef .tc main_v82)) := by
  after_reads_simp

/-! ## The rotations -/

theorem b_v84 : StableHlo.after hostOps1_1 U (Proc.devRef .tc main_v84)
    = select (α := Ideal .f32) (broadcastInDim S4x6144x64 ![2] bcast_S64_S4x6144x64_2 (U (Proc.devRef .tc main_v79))) (U (Proc.devRef .tc main_v83)) (U (Proc.devRef .tc main_v82)) := by
  after_reads_simp
  rfl

theorem b_v85 : StableHlo.after hostOps1_2 U (Proc.devRef .tc main_v85) = broadcastInDim S4x6144x1x64 ![0, 1, 3] bcast_S4x6144x64_S4x6144x1x64_0_1_3 (U (Proc.devRef .tc main_v84)) := by
  after_reads_simp

theorem b_v88 : StableHlo.after hostOps1_2 U (Proc.devRef .tc main_v88)
    = concatenate S4x6144x32x64 3 [⟨S4x6144x32x63, extractStridedSlice S4x6144x32x63 ![0, 0, 0, 1] (U (Proc.devRef .tc main_v58)) slices_S4x6144x32x64_S4x6144x32x63_0_0_0_1⟩,
        ⟨S4x6144x32x1, extractStridedSlice S4x6144x32x1 ![0, 0, 0, 0] (U (Proc.devRef .tc main_v58)) slices_S4x6144x32x64_S4x6144x32x1_0_0_0_0⟩] concatenates_S4x6144x32x63_S4x6144x32x1_S4x6144x32x64_d3 := by
  after_reads_simp
  rfl

theorem b_v91 : StableHlo.after hostOps1_2 U (Proc.devRef .tc main_v91)
    = concatenate S4x6144x32x64 3 [⟨S4x6144x32x1, extractStridedSlice S4x6144x32x1 ![0, 0, 0, 63] (U (Proc.devRef .tc main_v58)) slices_S4x6144x32x64_S4x6144x32x1_0_0_0_63⟩,
        ⟨S4x6144x32x63, extractStridedSlice S4x6144x32x63 ![0, 0, 0, 0] (U (Proc.devRef .tc main_v58)) slices_S4x6144x32x64_S4x6144x32x63_0_0_0_0⟩] concatenates_S4x6144x32x1_S4x6144x32x63_S4x6144x32x64_d3 := by
  after_reads_simp
  rfl

theorem b_v92 : StableHlo.after hostOps1_3 U (Proc.devRef .tc main_v92)
    = select (α := Ideal .f32) (broadcastInDim S4x6144x32x64 ![3] bcast_S64_S4x6144x32x64_3 (U (Proc.devRef .tc main_v79))) (U (Proc.devRef .tc main_v88)) (U (Proc.devRef .tc main_v91)) := by
  after_reads_simp
  rfl

theorem b_v98 : StableHlo.after hostOps1_4 U (Proc.devRef .tc main_v98)
    = truncf .bf16 (addf (F := Ideal) (φ := .f32) (mulf (U (Proc.devRef .tc main_v58)) (broadcastInDim S4x6144x32x64 ![0, 1, 2, 3] bcast_S4x6144x1x64_S4x6144x32x64_0_1_2_3 (U (Proc.devRef .tc main_v81))))
      (mulf (U (Proc.devRef .tc main_v92)) (broadcastInDim S4x6144x32x64 ![0, 1, 2, 3] bcast_S4x6144x1x64_S4x6144x32x64_0_1_2_3 (U (Proc.devRef .tc main_v85))))) bitsLt_bf16_f32 := by
  after_reads_simp

theorem b_v101 : StableHlo.after hostOps1_4 U (Proc.devRef .tc main_v101)
    = concatenate S4x6144x2x64 3 [⟨S4x6144x2x63, extractStridedSlice S4x6144x2x63 ![0, 0, 0, 1] (U (Proc.devRef .tc main_v60)) slices_S4x6144x2x64_S4x6144x2x63_0_0_0_1⟩,
        ⟨S4x6144x2x1, extractStridedSlice S4x6144x2x1 ![0, 0, 0, 0] (U (Proc.devRef .tc main_v60)) slices_S4x6144x2x64_S4x6144x2x1_0_0_0_0⟩] concatenates_S4x6144x2x63_S4x6144x2x1_S4x6144x2x64_d3 := by
  after_reads_simp
  rfl

theorem b_v104 : StableHlo.after hostOps1_4 U (Proc.devRef .tc main_v104)
    = concatenate S4x6144x2x64 3 [⟨S4x6144x2x1, extractStridedSlice S4x6144x2x1 ![0, 0, 0, 63] (U (Proc.devRef .tc main_v60)) slices_S4x6144x2x64_S4x6144x2x1_0_0_0_63⟩,
        ⟨S4x6144x2x63, extractStridedSlice S4x6144x2x63 ![0, 0, 0, 0] (U (Proc.devRef .tc main_v60)) slices_S4x6144x2x64_S4x6144x2x63_0_0_0_0⟩] concatenates_S4x6144x2x1_S4x6144x2x63_S4x6144x2x64_d3 := by
  after_reads_simp
  rfl

theorem b_v105 : StableHlo.after hostOps1_5 U (Proc.devRef .tc main_v105)
    = select (α := Ideal .f32) (broadcastInDim S4x6144x2x64 ![3] bcast_S64_S4x6144x2x64_3 (U (Proc.devRef .tc main_v79))) (U (Proc.devRef .tc main_v101)) (U (Proc.devRef .tc main_v104)) := by
  after_reads_simp
  rfl

theorem b_v111 : StableHlo.after hostOps1_6 U (Proc.devRef .tc main_v111)
    = truncf .bf16 (addf (F := Ideal) (φ := .f32) (mulf (U (Proc.devRef .tc main_v60)) (broadcastInDim S4x6144x2x64 ![0, 1, 2, 3] bcast_S4x6144x1x64_S4x6144x2x64_0_1_2_3 (U (Proc.devRef .tc main_v81))))
      (mulf (U (Proc.devRef .tc main_v105)) (broadcastInDim S4x6144x2x64 ![0, 1, 2, 3] bcast_S4x6144x1x64_S4x6144x2x64_0_1_2_3 (U (Proc.devRef .tc main_v85))))) bitsLt_bf16_f32 := by
  after_reads_simp

theorem b_v112 : StableHlo.after hostOps1_6 U (Proc.devRef .tc main_v112) = truncf (F := Ideal) (φ := .f32) .bf16 (U (Proc.devRef .tc main_v62)) bitsLt_bf16_f32 := by
  after_reads_simp

/-! ## What each stretch leaves alone -/

theorem keep1 : StableHlo.after hostOps1_1 U (Proc.devRef .tc main_v58) = U (Proc.devRef .tc main_v58)
    ∧ StableHlo.after hostOps1_1 U (Proc.devRef .tc main_v60) = U (Proc.devRef .tc main_v60) ∧ StableHlo.after hostOps1_1 U (Proc.devRef .tc main_v62) = U (Proc.devRef .tc main_v62)
    ∧ StableHlo.after hostOps1_1 U (Proc.devRef .tc main_v79) = U (Proc.devRef .tc main_v79) ∧ StableHlo.after hostOps1_1 U (Proc.devRef .tc main_v81) = U (Proc.devRef .tc main_v81) := by
  refine ⟨?_, ?_, ?_, ?_, ?_⟩ <;> after_reads_simp

theorem keep2 : StableHlo.after hostOps1_2 U (Proc.devRef .tc main_v58) = U (Proc.devRef .tc main_v58)
    ∧ StableHlo.after hostOps1_2 U (Proc.devRef .tc main_v60) = U (Proc.devRef .tc main_v60) ∧ StableHlo.after hostOps1_2 U (Proc.devRef .tc main_v62) = U (Proc.devRef .tc main_v62)
    ∧ StableHlo.after hostOps1_2 U (Proc.devRef .tc main_v79) = U (Proc.devRef .tc main_v79) ∧ StableHlo.after hostOps1_2 U (Proc.devRef .tc main_v81) = U (Proc.devRef .tc main_v81) := by
  refine ⟨?_, ?_, ?_, ?_, ?_⟩ <;> after_reads_simp

theorem keep3 : StableHlo.after hostOps1_3 U (Proc.devRef .tc main_v58) = U (Proc.devRef .tc main_v58)
    ∧ StableHlo.after hostOps1_3 U (Proc.devRef .tc main_v60) = U (Proc.devRef .tc main_v60) ∧ StableHlo.after hostOps1_3 U (Proc.devRef .tc main_v62) = U (Proc.devRef .tc main_v62)
    ∧ StableHlo.after hostOps1_3 U (Proc.devRef .tc main_v79) = U (Proc.devRef .tc main_v79) ∧ StableHlo.after hostOps1_3 U (Proc.devRef .tc main_v81) = U (Proc.devRef .tc main_v81)
    ∧ StableHlo.after hostOps1_3 U (Proc.devRef .tc main_v85) = U (Proc.devRef .tc main_v85) := by
  refine ⟨?_, ?_, ?_, ?_, ?_, ?_⟩ <;> after_reads_simp

theorem keep4 : StableHlo.after hostOps1_4 U (Proc.devRef .tc main_v60) = U (Proc.devRef .tc main_v60) ∧ StableHlo.after hostOps1_4 U (Proc.devRef .tc main_v62) = U (Proc.devRef .tc main_v62)
    ∧ StableHlo.after hostOps1_4 U (Proc.devRef .tc main_v79) = U (Proc.devRef .tc main_v79) ∧ StableHlo.after hostOps1_4 U (Proc.devRef .tc main_v81) = U (Proc.devRef .tc main_v81)
    ∧ StableHlo.after hostOps1_4 U (Proc.devRef .tc main_v85) = U (Proc.devRef .tc main_v85) := by
  refine ⟨?_, ?_, ?_, ?_, ?_⟩ <;> after_reads_simp

theorem keep5 : StableHlo.after hostOps1_5 U (Proc.devRef .tc main_v60) = U (Proc.devRef .tc main_v60) ∧ StableHlo.after hostOps1_5 U (Proc.devRef .tc main_v62) = U (Proc.devRef .tc main_v62)
    ∧ StableHlo.after hostOps1_5 U (Proc.devRef .tc main_v98) = U (Proc.devRef .tc main_v98) ∧ StableHlo.after hostOps1_5 U (Proc.devRef .tc main_v81) = U (Proc.devRef .tc main_v81)
    ∧ StableHlo.after hostOps1_5 U (Proc.devRef .tc main_v85) = U (Proc.devRef .tc main_v85) := by
  refine ⟨?_, ?_, ?_, ?_, ?_⟩ <;> after_reads_simp

theorem keep6 : StableHlo.after hostOps1_6 U (Proc.devRef .tc main_v98) = U (Proc.devRef .tc main_v98) := by
  after_reads_simp

/-- Everything after the casts. -/
def post : Valuation τ sig (Elt Ideal) :=
  StableHlo.after hostOps1_6 (StableHlo.after hostOps1_5 (StableHlo.after hostOps1_4 (StableHlo.after hostOps1_3 (StableHlo.after hostOps1_2 (StableHlo.after hostOps1_1 (StableHlo.after hostOps1 U))))))

/-- The product of what the casts left. -/
def pProd : FVec Ideal S4x6144x2304 .f32 :=
  tProd (tDeq (U (Proc.devRef .tc main_v43_1)) (U (Proc.devRef .tc main_v31))) (tWdq (U (Proc.devRef .tc main_v43_2)) (U (Proc.devRef .tc main_arg3)))

def pAng : FVec Ideal S4x6144x64 .f32 := tAng (U (Proc.devRef .tc main_arg4)) (U (Proc.devRef .tc main_cst))

theorem p_v112 : post U (Proc.devRef .tc main_v112) = truncf (F := Ideal) (φ := .f32) .bf16 (tV (pProd U)) bitsLt_bf16_f32 := by
  unfold post pProd
  rw [b_v112, (keep5 _).2.1, (keep4 _).2.1, (keep3 _).2.2.1, (keep2 _).2.2.1, (keep1 _).2.2.1, a_v62, a_v56, a_v49, a_v55]

/-- The sines as the rotations take them. -/
theorem p_v85 : StableHlo.after hostOps1_2 (StableHlo.after hostOps1_1 (StableHlo.after hostOps1 U)) (Proc.devRef .tc main_v85) = tSin (pAng U) := by
  unfold pAng tSin
  rw [b_v85, b_v84, a_v83, a_v82, a_v79, a_v74]

theorem p_v98 : post U (Proc.devRef .tc main_v98) = truncf (F := Ideal) (φ := .f32) .bf16 (tRope (H := 32) (tQ (pProd U)) (tCos (pAng U)) (tSin (pAng U))
    bcast_S4x6144x1x64_S4x6144x32x64_0_1_2_3 bcast_S64_S4x6144x32x64_3 slices_S4x6144x32x64_S4x6144x32x63_0_0_0_1 slices_S4x6144x32x64_S4x6144x32x1_0_0_0_0
    slices_S4x6144x32x64_S4x6144x32x1_0_0_0_63 slices_S4x6144x32x64_S4x6144x32x63_0_0_0_0 concatenates_S4x6144x32x63_S4x6144x32x1_S4x6144x32x64_d3
    concatenates_S4x6144x32x1_S4x6144x32x63_S4x6144x32x64_d3) bitsLt_bf16_f32 := by
  unfold post
  rw [keep6, (keep5 _).2.2.1, b_v98, b_v92, (keep3 _).1, (keep3 _).2.2.2.2.1, (keep3 _).2.2.2.2.2, b_v88, b_v91, p_v85, (keep2 _).1, (keep2 _).2.2.2.1, (keep2 _).2.2.2.2,
    (keep1 _).1, (keep1 _).2.2.2.1, (keep1 _).2.2.2.2, a_v58, a_v56, a_v49, a_v55, a_v79, a_v81, a_v74]
  rfl

theorem p_v111 : post U (Proc.devRef .tc main_v111) = truncf (F := Ideal) (φ := .f32) .bf16 (tRope (H := 2) (tK (pProd U)) (tCos (pAng U)) (tSin (pAng U))
    bcast_S4x6144x1x64_S4x6144x2x64_0_1_2_3 bcast_S64_S4x6144x2x64_3 slices_S4x6144x2x64_S4x6144x2x63_0_0_0_1 slices_S4x6144x2x64_S4x6144x2x1_0_0_0_0
    slices_S4x6144x2x64_S4x6144x2x1_0_0_0_63 slices_S4x6144x2x64_S4x6144x2x63_0_0_0_0 concatenates_S4x6144x2x63_S4x6144x2x1_S4x6144x2x64_d3
    concatenates_S4x6144x2x1_S4x6144x2x63_S4x6144x2x64_d3) bitsLt_bf16_f32 := by
  unfold post
  rw [b_v111, b_v105, (keep5 _).1, (keep5 _).2.2.2.1, (keep5 _).2.2.2.2, b_v101, b_v104, (keep4 _).1, (keep4 _).2.2.1, (keep4 _).2.2.2.1, (keep4 _).2.2.2.2,
    (keep3 _).2.1, (keep3 _).2.2.2.1, (keep3 _).2.2.2.2.1, (keep3 _).2.2.2.2.2, p_v85, (keep2 _).2.1, (keep2 _).2.2.2.1, (keep2 _).2.2.2.2,
    (keep1 _).2.1, (keep1 _).2.2.2.1, (keep1 _).2.2.2.2, a_v60, a_v56, a_v49, a_v55, a_v79, a_v81, a_v74]
  rfl

end

end Cert.ReferenceIdeal.Hand
-- ==== Proof.RefRun.lean ====
module

public import proofs.«01_k».proof.Proof.RefTail

@[expose] public section
noncomputable section
namespace Cert.ReferenceIdeal.Hand
open Cert.ReferenceIdeal Cert.ReferenceIdeal.Gen Idealize.ShloMosaic Idealize.ShloMosaic.TcCoe Idealize.SL.Sem
open Cert.Spec
open scoped BigOperators

/-! # The reference's run -/

variable (m : (ℓ : Loc nD τ sig) → Buf (Elt Ideal) ℓ) (c : Dev nD)

/-- The rotations' frequencies. -/
def freq (d : Fin 64) : EReal := Ideal.ofBits .f32 (lit0 (S64.rowMajor (ix1 d)))

/-- What the buffers hold when the casts are done. -/
def W : Valuation τ sig (Elt Ideal) := Pipeline.withArrays spec0 c (V0 m c) fun w => (dats m 0 c).arrAt w cfg0.N

theorem tail_eq (b : Ref sig .tc) : Pipeline.afterTail₀ cfgs (dats m) 0 (V0 m) [hostOps1, hostOps1_1, hostOps1_2, hostOps1_3, hostOps1_4, hostOps1_5, hostOps1_6] c b
    = post (W m c) (Proc.devRef .tc b) := by
  show StableHlo.after (List.flatten [hostOps1, hostOps1_1, hostOps1_2, hostOps1_3, hostOps1_4, hostOps1_5, hostOps1_6]) (W m c) _ = _
  simp only [List.flatten_cons, List.flatten_nil, List.append_nil, StableHlo.after_append]
  rfl

theorem W_v43_1 : W m c (Proc.devRef .tc main_v43_1) = tCode (tGrp (rX m c) (rN m c)) (tExpo (tMax (tGrp (rX m c) (rN m c)))) :=
  (Pipeline.withArrays_arr spec0 (by decide) c _ _ 3).trans ((arr3 m c).trans (V_v42 m c))

theorem W_v43_2 : W m c (Proc.devRef .tc main_v43_2) = rW m c :=
  (Pipeline.withArrays_arr spec0 (by decide) c _ _ 4).trans ((arr4 m c).trans (V_main_arg2 m c))

theorem W_v31 : W m c (Proc.devRef .tc main_v31) = tScale (tExpo (tMax (tGrp (rX m c) (rN m c)))) :=
  (Pipeline.withArrays_of_ne _ c (V0 m c) _ main_v31 (by exact (by decide : ∀ w, Pipeline.arrRef spec0 w ≠ main_v31))).trans (V_v31 m c)

theorem W_arg3 : W m c (Proc.devRef .tc main_arg3) = rS m c :=
  (Pipeline.withArrays_of_ne _ c (V0 m c) _ main_arg3 (by exact (by decide : ∀ w, Pipeline.arrRef spec0 w ≠ main_arg3))).trans (V_main_arg3 m c)

theorem W_arg4 : W m c (Proc.devRef .tc main_arg4) = rO m c :=
  (Pipeline.withArrays_of_ne _ c (V0 m c) _ main_arg4 (by exact (by decide : ∀ w, Pipeline.arrRef spec0 w ≠ main_arg4))).trans (V_main_arg4 m c)

theorem W_cst : W m c (Proc.devRef .tc main_cst) = (fun i => FloatOps.ofBits (F := Ideal) .f32 (lit0 (S64.rowMajor i))) :=
  (Pipeline.withArrays_of_ne _ c (V0 m c) _ main_cst (by exact (by decide : ∀ w, Pipeline.arrRef spec0 w ≠ main_cst))).trans (V_cst m c)

/-- The product's entries. -/
theorem pProd_apply (b : Fin 4) (p : Fin 6144) (n : Fin 2304) :
    pProd (W m c) (ix3 b p n) = prodE (rX m c) (wf (rN m c)) (rW m c) (rS m c) n b p := by
  unfold pProd
  rw [tProd_apply]
  refine Finset.sum_congr rfl fun k _ => ?_
  have hc : tCode (tGrp (rX m c) (rN m c)) (tExpo (tMax (tGrp (rX m c) (rN m c)))) (ix3 b p k) = resC (rX m c) (wf (rN m c)) b p k := tCode_apply _ _ b p k
  have hs : tScale (tExpo (tMax (tGrp (rX m c) (rN m c)))) (ix3 b p (grp k)) = resS (rX m c) (wf (rN m c)) b p (grp k) := tScale_expo_apply _ _ b p (grp k)
  rw [W_v43_1, W_v43_2, W_v31, W_arg3, tDeq_apply, hc, hs, tWdq_apply]
  exact mul_comm _ _

theorem pAng_apply (b : Fin 4) (p : Fin 6144) (d : Fin 64) : pAng (W m c) (ix3 b p d) = angE (rO m c) freq b p d := by
  unfold pAng
  rw [W_arg4, W_cst]
  exact tAng_apply _ _ b p d

theorem trunc_at {S : Shape} (u : FVec Ideal S .f32) (i : S.Idx) : truncf .bf16 u bitsLt_bf16_f32 i = (u i : EReal) := rfl

theorem tail_v98 : post (W m c) (Proc.devRef .tc main_v98)
    = (fun y : S4x6144x32x64.Idx => resQ (rX m c) (wf (rN m c)) (rW m c) (rS m c) (rO m c) freq (y 0) (y 1) (y 2) (y 3)) := by
  rw [p_v98]
  funext y
  obtain ⟨b, p, n, d, rfl⟩ : ∃ (b : Fin 4) (p : Fin 6144) (n : Fin 32) (d : Fin 64), y = ix4 b p n d := ⟨y 0, y 1, y 2, y 3, eq_ix4 y⟩
  refine (tRope_apply (H := 32) (tQ (pProd (W m c))) b p n d (pAng (W m c)) _ _ _ _ _ _ _ _).trans ?_
  exact congrArg₂ (fun t a => rope t a d) (funext fun d => (tQ_apply _ b p n d).trans (pProd_apply m c b p _)) (funext fun d => pAng_apply m c b p d)

theorem tail_v111 : post (W m c) (Proc.devRef .tc main_v111)
    = (fun y : S4x6144x2x64.Idx => resK (rX m c) (wf (rN m c)) (rW m c) (rS m c) (rO m c) freq (y 0) (y 1) (y 2) (y 3)) := by
  rw [p_v111]
  funext y
  obtain ⟨b, p, n, d, rfl⟩ : ∃ (b : Fin 4) (p : Fin 6144) (n : Fin 2) (d : Fin 64), y = ix4 b p n d := ⟨y 0, y 1, y 2, y 3, eq_ix4 y⟩
  refine (tRope_apply (H := 2) (tK (pProd (W m c))) b p n d (pAng (W m c)) _ _ _ _ _ _ _ _).trans ?_
  exact congrArg₂ (fun t a => rope t a d) (funext fun d => (tK_apply _ b p n d).trans (pProd_apply m c b p _)) (funext fun d => pAng_apply m c b p d)

theorem tail_v112 : post (W m c) (Proc.devRef .tc main_v112)
    = (fun y : S4x6144x2x64.Idx => resV (rX m c) (wf (rN m c)) (rW m c) (rS m c) (y 0) (y 1) (y 2) (y 3)) := by
  rw [p_v112]
  funext y
  obtain ⟨b, p, n, d, rfl⟩ : ∃ (b : Fin 4) (p : Fin 6144) (n : Fin 2) (d : Fin 64), y = ix4 b p n d := ⟨y 0, y 1, y 2, y 3, eq_ix4 y⟩
  rw [trunc_at, tV_apply, pProd_apply]
  rfl

theorem fin_v43_0 : (dats m 0 c).arrAt 2 cfg0.N = (fun y : S4x6144x8192.Idx => resC (rX m c) (wf (rN m c)) (y 0) (y 1) (y 2)) := by
  refine ((arr2 m c).trans (V_v42 m c)).trans ?_
  funext y
  obtain ⟨b, p, j, rfl⟩ : ∃ (b : Fin 4) (p : Fin 6144) (j : Fin 8192), y = ix3 b p j := ⟨y 0, y 1, y 2, eq_ix3 y⟩
  exact tCode_apply _ _ b p j

theorem tail_v31 : Pipeline.afterTail₀ cfgs (dats m) 0 (V0 m) [hostOps1, hostOps1_1, hostOps1_2, hostOps1_3, hostOps1_4, hostOps1_5, hostOps1_6] c main_v31
    = (fun y : S4x6144x64.Idx => resS (rX m c) (wf (rN m c)) (y 0) (y 1) (y 2)) := by
  unfold Pipeline.afterTail₀
  rw [StableHlo.after_of_forall_not_mem (b := Proc.devRef .tc main_v31) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  refine (W_v31 m c).trans ?_
  funext y
  obtain ⟨b, p, g, rfl⟩ : ∃ (b : Fin 4) (p : Fin 6144) (g : Fin 64), y = ix3 b p g := ⟨y 0, y 1, y 2, eq_ix3 y⟩
  exact tScale_expo_apply _ _ b p g

/-- The reference's run: each result is what its entries say, and the arguments end unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v98) = (fun y : S4x6144x32x64.Idx => resQ (rX m c) (wf (rN m c)) (rW m c) (rS m c) (rO m c) freq (y 0) (y 1) (y 2) (y 3))
      ∧ r.2.mem ((c.tc : Thread nD τ).loc main_v111) = (fun y : S4x6144x2x64.Idx => resK (rX m c) (wf (rN m c)) (rW m c) (rS m c) (rO m c) freq (y 0) (y 1) (y 2) (y 3))
      ∧ r.2.mem ((c.tc : Thread nD τ).loc main_v112) = (fun y : S4x6144x2x64.Idx => resV (rX m c) (wf (rN m c)) (rW m c) (rS m c) (y 0) (y 1) (y 2) (y 3))
      ∧ r.2.mem ((c.tc : Thread nD τ).loc main_v43_0) = (fun y : S4x6144x8192.Idx => resC (rX m c) (wf (rN m c)) (y 0) (y 1) (y 2))
      ∧ r.2.mem ((c.tc : Thread nD τ).loc main_v31) = (fun y : S4x6144x64.Idx => resS (rX m c) (wf (rN m c)) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ⟨?_, ?_, ?_, ?_, ?_, ?_, ?_, ?_, ?_, ?_⟩) (run_main (F := Ideal) m ρ)
  · exact ((h c).2 main_v98 (Pipeline.mem_restRefs_of main_v98 (by decide) (by decide))).trans ((tail_eq m c _).trans (tail_v98 m c))
  · exact ((h c).2 main_v111 (Pipeline.mem_restRefs_of main_v111 (by decide) (by decide))).trans ((tail_eq m c _).trans (tail_v111 m c))
  · exact ((h c).2 main_v112 (Pipeline.mem_restRefs_of main_v112 (by decide) (by decide))).trans ((tail_eq m c _).trans (tail_v112 m c))
  · exact ((h c).1 2).trans (fin_v43_0 m c)
  · exact ((h c).2 main_v31 (Pipeline.mem_restRefs_of main_v31 (by decide) (by decide))).trans (tail_v31 m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).1 1).trans (((dats m 0 c).arrAt_in 1 rfl _).trans ((A_eq m c 1).trans (V_main_arg2 m c)))
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)

end Cert.ReferenceIdeal.Hand
-- ==== Proof.Equation.lean ====
module

public import proofs.«01_k».proof.Defs
public import proofs.«01_k».proof.Proof.Arrays
public import proofs.«01_k».proof.Proof.RefRun
public import proofs.«01_k».proof.Proof.Gen.Pre_norm_w_is_bf16

@[expose] public section
noncomputable section
namespace Cert.Equation
open Idealize.ShloMosaic Idealize.ShloMosaic.TcCoe Idealize.SL.Sem Cert.Spec
open scoped BigOperators

/-! # The kernel's results are the reference's -/

/-- Both tables of frequencies hold the same words. -/
theorem table : ∀ d : Fin 64, Cert.KernelIdeal.lit0 (Cert.KernelIdeal.S64x128.rowMajor (ix2 d (0 : Fin 128))) = Cert.ReferenceIdeal.lit0 (Cert.ReferenceIdeal.S64.rowMajor (ix1 d)) := by
  decide +kernel

theorem freq_eq : Cert.KernelIdeal.Hand.freq = Cert.ReferenceIdeal.Hand.freq :=
  funext fun d => congrArg (Ideal.ofBits .f32) (table d)

/-- The precondition bounds every weight of the norm by the largest finite bf16. -/
theorem bound (m : (ℓ : Loc Cert.KernelIdeal.nD Cert.KernelIdeal.τ Cert.KernelIdeal.sig) → Buf (Elt Ideal) ℓ)
    (h : Cert.Pre_KernelIdeal_norm_w_is_bf16 (hPre_norm_w_is_bf16 := Cert.Pre_norm_w_is_bf16.Gen.facts) m) (c : Dev Cert.KernelIdeal.nD) (j : Fin 8192) :
    max (Cert.KernelIdeal.Hand.aN m c j) (-(Cert.KernelIdeal.Hand.aN m c j)) ≤ B 0x7F7F0000#32 := by
  have e := congrFun (h c) (ix1 j)
  have e' : BitVec.ofBool (decide (max (Cert.KernelIdeal.Hand.aN m c j) (-(Cert.KernelIdeal.Hand.aN m c j)) ≤ B 0x7F7F0000#32)) = 1#1 := e
  by_contra hn
  rw [decide_eq_false hn] at e'
  exact absurd e' (by decide)

theorem algebraic : Cert.algebraic_KernelIdeal_ReferenceIdeal_pre_norm_w_is_bf16 (hKernelIdeal := Cert.KernelIdeal.Gen.facts)
    (hReferenceIdeal := Cert.ReferenceIdeal.Gen.facts) (hPre_norm_w_is_bf16 := Cert.Pre_norm_w_is_bf16.Gen.facts) := by
  intro m g m' g' hp ha
  have hX : Cert.ReferenceIdeal.Hand.rX m' = Cert.KernelIdeal.Hand.aX m := funext fun c => (ha c).1
  have hN : (fun c => Cert.ReferenceIdeal.Hand.wf (Cert.ReferenceIdeal.Hand.rN m' c)) = Cert.KernelIdeal.Hand.aN m :=
    funext fun c => funext fun j => congrFun (ha c).2.1 (ix1 j)
  have hW : Cert.ReferenceIdeal.Hand.rW m' = Cert.KernelIdeal.Hand.aW m := funext fun c => (ha c).2.2.1
  have hS : Cert.ReferenceIdeal.Hand.rS m' = Cert.KernelIdeal.Hand.aS m := funext fun c => (ha c).2.2.2.1
  have hO : Cert.ReferenceIdeal.Hand.rO m' = Cert.KernelIdeal.Hand.aO m := funext fun c => (ha c).2.2.2.2
  refine ⟨_, _, _, _, _, Cert.KernelIdeal.Hand.run m g (bound m hp), (θ_run _ _ _).mono (fun r h c => ?_) (Cert.ReferenceIdeal.Hand.run m' g')⟩
  obtain ⟨h0, h1, h2, h3, h4, hargs⟩ := h c
  rw [hX, hW, hS, hO, show Cert.ReferenceIdeal.Hand.wf (Cert.ReferenceIdeal.Hand.rN m' c) = Cert.KernelIdeal.Hand.aN m c from congrFun hN c, ← freq_eq] at h0 h1
  rw [hX, hW, hS, show Cert.ReferenceIdeal.Hand.wf (Cert.ReferenceIdeal.Hand.rN m' c) = Cert.KernelIdeal.Hand.aN m c from congrFun hN c] at h2
  rw [hX, show Cert.ReferenceIdeal.Hand.wf (Cert.ReferenceIdeal.Hand.rN m' c) = Cert.KernelIdeal.Hand.aN m c from congrFun hN c] at h3 h4
  exact ⟨h0, h1, h2, h3, h4, hargs⟩

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Frame
public import proofs.«01_k».proof.Proof.Gen.Pre_norm_w_is_bf16
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The five claims: the three programs run to the end and keep their arguments, the idealization
    rewrote nothing, and the kernel's results are the reference's. -/
theorem claim : Cert.Claim :=
  ⟨Cert.Kernel.Gen.facts, Cert.KernelIdeal.Gen.facts, Cert.ReferenceIdeal.Gen.facts, Cert.Pre_norm_w_is_bf16.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial, Cert.Equation.algebraic⟩

end Cert.Proof

end
